-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_ranges [hPre_drawn_ranges : Cert.Pre_drawn_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_ranges [hPre_drawn_ranges : Cert.Pre_drawn_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn_ranges [hKernelIdeal : Cert.KernelIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn_ranges [hReferenceIdeal : Cert.ReferenceIdeal.Facts] [hPre_drawn_ranges : Cert.Pre_drawn_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn_ranges [hKernelIdeal : Cert.KernelIdeal.Facts] [hReferenceIdeal : Cert.ReferenceIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn_ranges : Cert.Pre_drawn_ranges.Facts),
    quiescent_Kernel (hKernel := hKernel)
    ∧ quiescent_KernelIdeal (hKernelIdeal := hKernelIdeal)
    ∧ quiescent_KernelIdeal_pre_drawn_ranges (hKernelIdeal := hKernelIdeal) (hPre_drawn_ranges := hPre_drawn_ranges)
    ∧ quiescent_ReferenceIdeal (hReferenceIdeal := hReferenceIdeal)
    ∧ quiescent_ReferenceIdeal_pre_drawn_ranges (hReferenceIdeal := hReferenceIdeal) (hPre_drawn_ranges := hPre_drawn_ranges)
    ∧ preserves_Kernel_KernelIdeal
    ∧ algebraic_KernelIdeal_ReferenceIdeal_pre_drawn_ranges (hKernelIdeal := hKernelIdeal) (hReferenceIdeal := hReferenceIdeal) (hPre_drawn_ranges := hPre_drawn_ranges)
-- ==== Pre_drawn_ranges.lean ====
abbrev S4x12x64x64x64 : Shape := ⟨5, ![4, 12, 64, 64, 64]⟩
abbrev S4x1x64x64x64 : Shape := ⟨5, ![4, 1, 64, 64, 64]⟩
abbrev S4x2x64x64x64 : Shape := ⟨5, ![4, 2, 64, 64, 64]⟩
abbrev S_ : Shape := ⟨0, ![]⟩

class Facts : Prop where
  slices_S4x12x64x64x64_S4x1x64x64x64_0_0_0_0_0 : S4x12x64x64x64.Slices ![0, 0, 0, 0, 0] S4x1x64x64x64
  bcast_S_S4x1x64x64x64 : S_.BroadcastsInDim S4x1x64x64x64 (![] : Fin 0 → Fin S4x1x64x64x64.rank)
  slices_S4x12x64x64x64_S4x1x64x64x64_0_1_0_0_0 : S4x12x64x64x64.Slices ![0, 1, 0, 0, 0] S4x1x64x64x64
  slices_S4x12x64x64x64_S4x1x64x64x64_0_2_0_0_0 : S4x12x64x64x64.Slices ![0, 2, 0, 0, 0] S4x1x64x64x64
  slices_S4x12x64x64x64_S4x1x64x64x64_0_3_0_0_0 : S4x12x64x64x64.Slices ![0, 3, 0, 0, 0] S4x1x64x64x64
  slices_S4x12x64x64x64_S4x1x64x64x64_0_4_0_0_0 : S4x12x64x64x64.Slices ![0, 4, 0, 0, 0] S4x1x64x64x64
  slices_S4x12x64x64x64_S4x1x64x64x64_0_5_0_0_0 : S4x12x64x64x64.Slices ![0, 5, 0, 0, 0] S4x1x64x64x64
  slices_S4x12x64x64x64_S4x1x64x64x64_0_6_0_0_0 : S4x12x64x64x64.Slices ![0, 6, 0, 0, 0] S4x1x64x64x64
  slices_S4x12x64x64x64_S4x1x64x64x64_0_7_0_0_0 : S4x12x64x64x64.Slices ![0, 7, 0, 0, 0] S4x1x64x64x64
  slices_S4x12x64x64x64_S4x1x64x64x64_0_8_0_0_0 : S4x12x64x64x64.Slices ![0, 8, 0, 0, 0] S4x1x64x64x64
  slices_S4x12x64x64x64_S4x1x64x64x64_0_9_0_0_0 : S4x12x64x64x64.Slices ![0, 9, 0, 0, 0] S4x1x64x64x64
  slices_S4x12x64x64x64_S4x1x64x64x64_0_10_0_0_0 : S4x12x64x64x64.Slices ![0, 10, 0, 0, 0] S4x1x64x64x64
  slices_S4x12x64x64x64_S4x1x64x64x64_0_11_0_0_0 : S4x12x64x64x64.Slices ![0, 11, 0, 0, 0] S4x1x64x64x64

variable [Facts]

def fn_part3 {F : FTy → Type} [FloatOps F] (main_arg1 : IVec S4x1x64x64x64 32) (main_arg2 : IVec S4x1x64x64x64 32) (main_v58 : IVec S4x1x64x64x64 1) (main_c : IVec S_ 32) : IVec S4x1x64x64x64 1 :=
  let main_v59 : IVec S4x1x64x64x64 32 := broadcastInDim S4x1x64x64x64 ![] bcast_S_S4x1x64x64x64 main_c
  let main_v60 : IVec S4x1x64x64x64 1 := cmpi .sge main_arg1 main_v59
  let main_c_11 : IVec S_ 32 := constantI S_ 32 12#32
  let main_v61 : IVec S4x1x64x64x64 32 := broadcastInDim S4x1x64x64x64 ![] bcast_S_S4x1x64x64x64 main_c_11
  let main_v62 : IVec S4x1x64x64x64 1 := cmpi .slt main_arg1 main_v61
  let main_v63 : IVec S4x1x64x64x64 1 := andi main_v60 main_v62
  let main_c_12 : IVec S_ 32 := constantI S_ 32 0#32
  let main_v64 : IVec S4x1x64x64x64 32 := broadcastInDim S4x1x64x64x64 ![] bcast_S_S4x1x64x64x64 main_c_12
  let main_v65 : IVec S4x1x64x64x64 1 := cmpi .sge main_arg2 main_v64
  let main_c_13 : IVec S_ 32 := constantI S_ 32 1#32
  let main_v66 : IVec S4x1x64x64x64 32 := broadcastInDim S4x1x64x64x64 ![] bcast_S_S4x1x64x64x64 main_c_13
  let main_v67 : IVec S4x1x64x64x64 1 := cmpi .sle main_arg2 main_v66
  let main_v68 : IVec S4x1x64x64x64 1 := andi main_v65 main_v67
  let main_v69 : IVec S4x1x64x64x64 1 := andi main_v58 main_v63
  let main_v70 : IVec S4x1x64x64x64 1 := andi main_v69 main_v68
  main_v70

def fn_part2 {F : FTy → Type} [FloatOps F] (main_arg0 : FVec F S4x12x64x64x64 .f32) (main_arg1 : IVec S4x1x64x64x64 32) (main_arg2 : IVec S4x1x64x64x64 32) (main_v38 : IVec S4x1x64x64x64 1) (main_v39 : FVec F S4x1x64x64x64 .f32) : IVec S4x1x64x64x64 1 :=
  let main_v40 : FVec F S4x1x64x64x64 .f32 := Host.absf main_v39
  let main_cst_7 : FVec F S_ .f32 := constant S_ .f32 0x7F800000#32
  let main_v41 : FVec F S4x1x64x64x64 .f32 := broadcastInDim S4x1x64x64x64 ![] bcast_S_S4x1x64x64x64 main_cst_7
  let main_v42 : IVec S4x1x64x64x64 1 := cmpf .olt main_v40 main_v41
  let main_v43 : IVec S4x1x64x64x64 1 := andi main_v38 main_v42
  let main_v44 : FVec F S4x1x64x64x64 .f32 := (extractStridedSlice S4x1x64x64x64 ![0, 9, 0, 0, 0] · slices_S4x12x64x64x64_S4x1x64x64x64_0_9_0_0_0) main_arg0
  let main_v45 : FVec F S4x1x64x64x64 .f32 := Host.absf main_v44
  let main_cst_8 : FVec F S_ .f32 := constant S_ .f32 0x7F800000#32
  let main_v46 : FVec F S4x1x64x64x64 .f32 := broadcastInDim S4x1x64x64x64 ![] bcast_S_S4x1x64x64x64 main_cst_8
  let main_v47 : IVec S4x1x64x64x64 1 := cmpf .olt main_v45 main_v46
  let main_v48 : IVec S4x1x64x64x64 1 := andi main_v43 main_v47
  let main_v49 : FVec F S4x1x64x64x64 .f32 := (extractStridedSlice S4x1x64x64x64 ![0, 10, 0, 0, 0] · slices_S4x12x64x64x64_S4x1x64x64x64_0_10_0_0_0) main_arg0
  let main_v50 : FVec F S4x1x64x64x64 .f32 := Host.absf main_v49
  let main_cst_9 : FVec F S_ .f32 := constant S_ .f32 0x7F800000#32
  let main_v51 : FVec F S4x1x64x64x64 .f32 := broadcastInDim S4x1x64x64x64 ![] bcast_S_S4x1x64x64x64 main_cst_9
  let main_v52 : IVec S4x1x64x64x64 1 := cmpf .olt main_v50 main_v51
  let main_v53 : IVec S4x1x64x64x64 1 := andi main_v48 main_v52
  let main_v54 : FVec F S4x1x64x64x64 .f32 := (extractStridedSlice S4x1x64x64x64 ![0, 11, 0, 0, 0] · slices_S4x12x64x64x64_S4x1x64x64x64_0_11_0_0_0) main_arg0
  let main_v55 : FVec F S4x1x64x64x64 .f32 := Host.absf main_v54
  let main_cst_10 : FVec F S_ .f32 := constant S_ .f32 0x7F800000#32
  let main_v56 : FVec F S4x1x64x64x64 .f32 := broadcastInDim S4x1x64x64x64 ![] bcast_S_S4x1x64x64x64 main_cst_10
  let main_v57 : IVec S4x1x64x64x64 1 := cmpf .olt main_v55 main_v56
  let main_v58 : IVec S4x1x64x64x64 1 := andi main_v53 main_v57
  let main_c : IVec S_ 32 := constantI S_ 32 0#32
  fn_part3 (F := F) main_arg1 main_arg2 main_v58 main_c

def fn_part1 {F : FTy → Type} [FloatOps F] (main_arg0 : FVec F S4x12x64x64x64 .f32) (main_arg1 : IVec S4x1x64x64x64 32) (main_arg2 : IVec S4x1x64x64x64 32) (main_v18 : IVec S4x1x64x64x64 1) (main_v19 : FVec F S4x1x64x64x64 .f32) : IVec S4x1x64x64x64 1 :=
  let main_v20 : FVec F S4x1x64x64x64 .f32 := Host.absf main_v19
  let main_cst_3 : FVec F S_ .f32 := constant S_ .f32 0x7F800000#32
  let main_v21 : FVec F S4x1x64x64x64 .f32 := broadcastInDim S4x1x64x64x64 ![] bcast_S_S4x1x64x64x64 main_cst_3
  let main_v22 : IVec S4x1x64x64x64 1 := cmpf .olt main_v20 main_v21
  let main_v23 : IVec S4x1x64x64x64 1 := andi main_v18 main_v22
  let main_v24 : FVec F S4x1x64x64x64 .f32 := (extractStridedSlice S4x1x64x64x64 ![0, 5, 0, 0, 0] · slices_S4x12x64x64x64_S4x1x64x64x64_0_5_0_0_0) main_arg0
  let main_v25 : FVec F S4x1x64x64x64 .f32 := Host.absf main_v24
  let main_cst_4 : FVec F S_ .f32 := constant S_ .f32 0x7F800000#32
  let main_v26 : FVec F S4x1x64x64x64 .f32 := broadcastInDim S4x1x64x64x64 ![] bcast_S_S4x1x64x64x64 main_cst_4
  let main_v27 : IVec S4x1x64x64x64 1 := cmpf .olt main_v25 main_v26
  let main_v28 : IVec S4x1x64x64x64 1 := andi main_v23 main_v27
  let main_v29 : FVec F S4x1x64x64x64 .f32 := (extractStridedSlice S4x1x64x64x64 ![0, 6, 0, 0, 0] · slices_S4x12x64x64x64_S4x1x64x64x64_0_6_0_0_0) main_arg0
  let main_v30 : FVec F S4x1x64x64x64 .f32 := Host.absf main_v29
  let main_cst_5 : FVec F S_ .f32 := constant S_ .f32 0x7F800000#32
  let main_v31 : FVec F S4x1x64x64x64 .f32 := broadcastInDim S4x1x64x64x64 ![] bcast_S_S4x1x64x64x64 main_cst_5
  let main_v32 : IVec S4x1x64x64x64 1 := cmpf .olt main_v30 main_v31
  let main_v33 : IVec S4x1x64x64x64 1 := andi main_v28 main_v32
  let main_v34 : FVec F S4x1x64x64x64 .f32 := (extractStridedSlice S4x1x64x64x64 ![0, 7, 0, 0, 0] · slices_S4x12x64x64x64_S4x1x64x64x64_0_7_0_0_0) main_arg0
  let main_v35 : FVec F S4x1x64x64x64 .f32 := Host.absf main_v34
  let main_cst_6 : FVec F S_ .f32 := constant S_ .f32 0x7F800000#32
  let main_v36 : FVec F S4x1x64x64x64 .f32 := broadcastInDim S4x1x64x64x64 ![] bcast_S_S4x1x64x64x64 main_cst_6
  let main_v37 : IVec S4x1x64x64x64 1 := cmpf .olt main_v35 main_v36
  let main_v38 : IVec S4x1x64x64x64 1 := andi main_v33 main_v37
  let main_v39 : FVec F S4x1x64x64x64 .f32 := (extractStridedSlice S4x1x64x64x64 ![0, 8, 0, 0, 0] · slices_S4x12x64x64x64_S4x1x64x64x64_0_8_0_0_0) main_arg0
  fn_part2 (F := F) main_arg0 main_arg1 main_arg2 main_v38 main_v39

def fn {F : FTy → Type} [FloatOps F] (main_arg0 : FVec F S4x12x64x64x64 .f32) (main_arg1 : IVec S4x1x64x64x64 32) (main_arg2 : IVec S4x1x64x64x64 32) (main_arg3 : FVec F S4x2x64x64x64 .f32) : IVec S4x1x64x64x64 1 :=
  let main_v0 : FVec F S4x1x64x64x64 .f32 := (extractStridedSlice S4x1x64x64x64 ![0, 0, 0, 0, 0] · slices_S4x12x64x64x64_S4x1x64x64x64_0_0_0_0_0) main_arg0
  let main_v1 : FVec F S4x1x64x64x64 .f32 := Host.absf main_v0
  let main_cst : FVec F S_ .f32 := constant S_ .f32 0x7F800000#32
  let main_v2 : FVec F S4x1x64x64x64 .f32 := broadcastInDim S4x1x64x64x64 ![] bcast_S_S4x1x64x64x64 main_cst
  let main_v3 : IVec S4x1x64x64x64 1 := cmpf .olt main_v1 main_v2
  let main_v4 : FVec F S4x1x64x64x64 .f32 := (extractStridedSlice S4x1x64x64x64 ![0, 1, 0, 0, 0] · slices_S4x12x64x64x64_S4x1x64x64x64_0_1_0_0_0) main_arg0
  let main_v5 : FVec F S4x1x64x64x64 .f32 := Host.absf main_v4
  let main_cst_0 : FVec F S_ .f32 := constant S_ .f32 0x7F800000#32
  let main_v6 : FVec F S4x1x64x64x64 .f32 := broadcastInDim S4x1x64x64x64 ![] bcast_S_S4x1x64x64x64 main_cst_0
  let main_v7 : IVec S4x1x64x64x64 1 := cmpf .olt main_v5 main_v6
  let main_v8 : IVec S4x1x64x64x64 1 := andi main_v3 main_v7
  let main_v9 : FVec F S4x1x64x64x64 .f32 := (extractStridedSlice S4x1x64x64x64 ![0, 2, 0, 0, 0] · slices_S4x12x64x64x64_S4x1x64x64x64_0_2_0_0_0) main_arg0
  let main_v10 : FVec F S4x1x64x64x64 .f32 := Host.absf main_v9
  let main_cst_1 : FVec F S_ .f32 := constant S_ .f32 0x7F800000#32
  let main_v11 : FVec F S4x1x64x64x64 .f32 := broadcastInDim S4x1x64x64x64 ![] bcast_S_S4x1x64x64x64 main_cst_1
  let main_v12 : IVec S4x1x64x64x64 1 := cmpf .olt main_v10 main_v11
  let main_v13 : IVec S4x1x64x64x64 1 := andi main_v8 main_v12
  let main_v14 : FVec F S4x1x64x64x64 .f32 := (extractStridedSlice S4x1x64x64x64 ![0, 3, 0, 0, 0] · slices_S4x12x64x64x64_S4x1x64x64x64_0_3_0_0_0) main_arg0
  let main_v15 : FVec F S4x1x64x64x64 .f32 := Host.absf main_v14
  let main_cst_2 : FVec F S_ .f32 := constant S_ .f32 0x7F800000#32
  let main_v16 : FVec F S4x1x64x64x64 .f32 := broadcastInDim S4x1x64x64x64 ![] bcast_S_S4x1x64x64x64 main_cst_2
  let main_v17 : IVec S4x1x64x64x64 1 := cmpf .olt main_v15 main_v16
  let main_v18 : IVec S4x1x64x64x64 1 := andi main_v13 main_v17
  let main_v19 : FVec F S4x1x64x64x64 .f32 := (extractStridedSlice S4x1x64x64x64 ![0, 4, 0, 0, 0] · slices_S4x12x64x64x64_S4x1x64x64x64_0_4_0_0_0) main_arg0
  fn_part1 (F := F) main_arg0 main_arg1 main_arg2 main_v18 main_v19
-- ==== Kernel.lean ====
abbrev S4x12x64x64x64 : Shape := ⟨5, ![4, 12, 64, 64, 64]⟩
abbrev S4x1x64x64x64 : Shape := ⟨5, ![4, 1, 64, 64, 64]⟩
abbrev S4x2x64x64x64 : Shape := ⟨5, ![4, 2, 64, 64, 64]⟩
abbrev S1x1 : Shape := ⟨2, ![1, 1]⟩
abbrev S1x12x32x64x64 : Shape := ⟨5, ![1, 12, 32, 64, 64]⟩
abbrev S1x1x32x64x64 : Shape := ⟨5, ![1, 1, 32, 64, 64]⟩
abbrev S1x2x32x64x64 : Shape := ⟨5, ![1, 2, 32, 64, 64]⟩
abbrev S64x16 : Shape := ⟨2, ![64, 16]⟩
abbrev S12x64x64 : Shape := ⟨3, ![12, 64, 64]⟩
abbrev S64x64 : Shape := ⟨2, ![64, 64]⟩
abbrev S1x12x1x64x64 : Shape := ⟨5, ![1, 12, 1, 64, 64]⟩
abbrev S1x1x1x64x64 : Shape := ⟨5, ![1, 1, 1, 64, 64]⟩
abbrev S1x64x64 : Shape := ⟨3, ![1, 64, 64]⟩
abbrev S12x1x1 : Shape := ⟨3, ![12, 1, 1]⟩
abbrev S25x64x64 : Shape := ⟨3, ![25, 64, 64]⟩
abbrev S1600x64 : Shape := ⟨2, ![1600, 64]⟩
abbrev S1600x16 : Shape := ⟨2, ![1600, 16]⟩
abbrev S12800x16 : Shape := ⟨2, ![12800, 16]⟩
abbrev S200x64x16 : Shape := ⟨3, ![200, 64, 16]⟩
abbrev S200x16x64 : Shape := ⟨3, ![200, 16, 64]⟩
abbrev S3200x64 : Shape := ⟨2, ![3200, 64]⟩
abbrev S3200x16 : Shape := ⟨2, ![3200, 16]⟩
abbrev S8x25x16x16 : Shape := ⟨4, ![8, 25, 16, 16]⟩
abbrev S8x12x16x16 : Shape := ⟨4, ![8, 12, 16, 16]⟩
abbrev S8x1x16x16 : Shape := ⟨4, ![8, 1, 16, 16]⟩
abbrev S8x16x16 : Shape := ⟨3, ![8, 16, 16]⟩
abbrev S1x8x16x16 : Shape := ⟨4, ![1, 8, 16, 16]⟩
abbrev S1 : Shape := ⟨1, ![1]⟩
abbrev S1x1x1x1 : Shape := ⟨4, ![1, 1, 1, 1]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4x12x64x64x64, .f32⟩
  | .hbm, ⟨1, _⟩ => ⟨S4x1x64x64x64, .i32⟩
  | .hbm, ⟨2, _⟩ => ⟨S4x1x64x64x64, .i32⟩
  | .hbm, ⟨3, _⟩ => ⟨S4x2x64x64x64, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i1⟩
  | .hbm, ⟨13, _⟩ => ⟨S_, .f32⟩
  | .hbm, ⟨14, _⟩ => ⟨S_, .f32⟩
  | .local _ .vmem, ⟨0, _⟩ => ⟨S1x12x32x64x64, .f32⟩
  | .local _ .vmem, ⟨1, _⟩ => ⟨S1x12x32x64x64, .f32⟩
  | .local _ .vmem, ⟨2, _⟩ => ⟨S1x1x32x64x64, .i32⟩
  | .local _ .vmem, ⟨3, _⟩ => ⟨S1x1x32x64x64, .i32⟩
  | .local _ .vmem, ⟨4, _⟩ => ⟨S1x1x32x64x64, .i32⟩
  | .local _ .vmem, ⟨5, _⟩ => ⟨S1x1x32x64x64, .i32⟩
  | .local _ .vmem, ⟨6, _⟩ => ⟨S1x2x32x64x64, .f32⟩
  | .local _ .vmem, ⟨7, _⟩ => ⟨S1x2x32x64x64, .f32⟩
  | .local _ .vmem, ⟨8, _⟩ => ⟨S1x1, .f32⟩
  | .local _ .vmem, ⟨9, _⟩ => ⟨S1x1, .f32⟩
  | _, _ => ⟨S4x12x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x12x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x32x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x12x64x64x64 : Shape := ⟨5, ![4, 12, 64, 64, 64]⟩
abbrev S4x1x64x64x64 : Shape := ⟨5, ![4, 1, 64, 64, 64]⟩
abbrev S4x2x64x64x64 : Shape := ⟨5, ![4, 2, 64, 64, 64]⟩
abbrev S_ : Shape := ⟨0, ![]⟩
abbrev S4x64x64x64 : Shape := ⟨4, ![4, 64, 64, 64]⟩
abbrev S4x1x16x4x16x4x16x4 : Shape := ⟨8, ![4, 1, 16, 4, 16, 4, 16, 4]⟩
abbrev S4x16x16x16x1x4x4x4 : Shape := ⟨8, ![4, 16, 16, 16, 1, 4, 4, 4]⟩
abbrev S16384x1x64 : Shape := ⟨3, ![16384, 1, 64]⟩
abbrev S16384x64 : Shape := ⟨2, ![16384, 64]⟩
abbrev S4x12x16x4x16x4x16x4 : Shape := ⟨8, ![4, 12, 16, 4, 16, 4, 16, 4]⟩
abbrev S4x16x16x16x12x4x4x4 : Shape := ⟨8, ![4, 16, 16, 16, 12, 4, 4, 4]⟩
abbrev S16384x12x64 : Shape := ⟨3, ![16384, 12, 64]⟩
abbrev S16384 : Shape := ⟨1, ![16384]⟩
abbrev S16384x12 : Shape := ⟨2, ![16384, 12]⟩
abbrev S16384x64x1 : Shape := ⟨3, ![16384, 64, 1]⟩
abbrev S1x1x12 : Shape := ⟨3, ![1, 1, 12]⟩
abbrev S16384x64x12 : Shape := ⟨3, ![16384, 64, 12]⟩
abbrev S16384x1 : Shape := ⟨2, ![16384, 1]⟩

abbrev nBuf : Space → Nat
  | .hbm => 136
  | .vmem => 0
  | .smem => 0
  | _ => 0

abbrev hbmTy0_0 (i : Nat) : BufTy := match i % 128 with
  | 0 => ⟨S4x12x64x64x64, .f32⟩
  | 1 => ⟨S4x1x64x64x64, .i32⟩
  | 2 => ⟨S4x1x64x64x64, .i32⟩
  | 3 => ⟨S4x2x64x64x64, .f32⟩
  | 4 => ⟨S4x2x64x64x64, .i32⟩
  | 5 => ⟨S_, .f32⟩
  | 6 => ⟨S_, .i32⟩
  | 7 => ⟨S4x64x64x64, .f32⟩
  | 8 => ⟨S4x64x64x64, .i32⟩
  | 9 => ⟨S4x1x64x64x64, .i32⟩
  | 10 => ⟨S_, .f32⟩
  | 11 => ⟨S4x64x64x64, .f32⟩
  | 12 => ⟨S_, .f32⟩
  | 13 => ⟨S4x64x64x64, .f32⟩
  | 14 => ⟨S4x64x64x64, .f32⟩
  | 15 => ⟨S4x1x64x64x64, .f32⟩
  | 16 => ⟨S4x12x64x64x64, .f32⟩
  | 17 => ⟨S4x12x64x64x64, .f32⟩
  | 18 => ⟨S4x12x64x64x64, .f32⟩
  | 19 => ⟨S_, .f32⟩
  | 20 => ⟨S4x64x64x64, .f32⟩
  | 21 => ⟨S4x1x64x64x64, .f32⟩
  | 22 => ⟨S4x12x64x64x64, .f32⟩
  | 23 => ⟨S4x12x64x64x64, .f32⟩
  | 24 => ⟨S4x1x16x4x16x4x16x4, .i32⟩
  | 25 => ⟨S4x16x16x16x1x4x4x4, .i32⟩
  | 26 => ⟨S16384x1x64, .i32⟩
  | 27 => ⟨S16384x64, .i32⟩
  | 28 => ⟨S4x1x16x4x16x4x16x4, .i32⟩
  | 29 => ⟨S4x16x16x16x1x4x4x4, .i32⟩
  | 30 => ⟨S16384x1x64, .i32⟩
  | 31 => ⟨S16384x64, .i32⟩
  | 32 => ⟨S4x1x16x4x16x4x16x4, .i32⟩
  | 33 => ⟨S4x16x16x16x1x4x4x4, .i32⟩
  | 34 => ⟨S16384x1x64, .i32⟩
  | 35 => ⟨S16384x64, .i32⟩
  | 36 => ⟨S4x12x16x4x16x4x16x4, .f32⟩
  | 37 => ⟨S4x16x16x16x12x4x4x4, .f32⟩
  | 38 => ⟨S16384x12x64, .f32⟩
  | 39 => ⟨S_, .i32⟩
  | 40 => ⟨S16384, .i32⟩
  | 41 => ⟨S_, .i32⟩
  | 42 => ⟨S16384, .i32⟩
  | 43 => ⟨S_, .i32⟩
  | 44 => ⟨S16384x64, .i32⟩
  | 45 => ⟨S16384x64, .i1⟩
  | 46 => ⟨S16384x64, .i32⟩
  | 47 => ⟨S_, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i1⟩
  | 55 => ⟨S16384, .i1⟩
  | 56 => ⟨S_, .i32⟩
  | 57 => ⟨S16384, .i32⟩
  | 58 => ⟨S16384, .i1⟩
  | 59 => ⟨S16384, .i1⟩
  | 60 => ⟨S_, .i32⟩
  | 61 => ⟨S16384x64, .i32⟩
  | 62 => ⟨S16384x64, .i1⟩
  | 63 => ⟨S16384x64, .f32⟩
  | 64 => ⟨S16384x1x64, .f32⟩
  | 65 => ⟨S16384x12x64, .f32⟩
  | 66 => ⟨S16384x12x64, .f32⟩
  | 67 => ⟨S_, .f32⟩
  | 68 => ⟨S16384x12, .f32⟩
  | 69 => ⟨S16384x64x1, .i32⟩
  | 70 => ⟨S1x1x12, .i32⟩
  | 71 => ⟨S16384x64x12, .i32⟩
  | 72 => ⟨S16384x64x12, .i32⟩
  | 73 => ⟨S16384x64x12, .i1⟩
  | 74 => ⟨S16384x64x12, .f32⟩
  | 75 => ⟨S16384x64x1, .f32⟩
  | 76 => ⟨S16384x64x12, .f32⟩
  | 77 => ⟨S16384x64x12, .f32⟩
  | 78 => ⟨S_, .f32⟩
  | 79 => ⟨S16384x12, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S16384x12, .f32⟩
  | 87 => ⟨S16384x12, .f32⟩
  | 88 => ⟨S_, .f32⟩
  | 89 => ⟨S16384, .f32⟩
  | 90 => ⟨S16384x1, .f32⟩
  | 91 => ⟨S_, .f32⟩
  | 92 => ⟨S16384x1, .f32⟩
  | 93 => ⟨S16384x1, .f32⟩
  | 94 => ⟨S16384x12, .f32⟩
  | 95 => ⟨S16384x12, .f32⟩
  | 96 => ⟨S_, .f32⟩
  | 97 => ⟨S16384x12, .f32⟩
  | 98 => ⟨S16384x12, .i1⟩
  | 99 => ⟨S_, .f32⟩
  | 100 => ⟨S_, .f32⟩
  | 101 => ⟨S16384x12, .f32⟩
  | 102 => ⟨S16384x12, .f32⟩
  | 103 => ⟨S_, .f32⟩
  | 104 => ⟨S16384x12, .f32⟩
  | 105 => ⟨S16384x12, .i1⟩
  | 106 => ⟨S_, .f32⟩
  | 107 => ⟨S_, .f32⟩
  | 108 => ⟨S16384x12, .f32⟩
  | 109 => ⟨S16384x12, .f32⟩
  | 110 => ⟨S_, .f32⟩
  | 111 => ⟨S16384x12, .f32⟩
  | 112 => ⟨S16384x12, .i1⟩
  | 113 => ⟨S16384x12, .f32⟩
  | 114 => ⟨S16384x12, .f32⟩
  | 115 => ⟨S16384x12, .f32⟩
  | 116 => ⟨S16384x12, .f32⟩
  | 117 => ⟨S_, .f32⟩
  | 118 => ⟨S_, .f32⟩
  | 119 => ⟨S16384x12, .f32⟩
  | 120 => ⟨S16384x12, .f32⟩
  | 121 => ⟨S_, .f32⟩
  | 122 => ⟨S16384, .f32⟩
  | 123 => ⟨S16384, .f32⟩
  | 124 => ⟨S_, .f32⟩
  | 125 => ⟨S_, .f32⟩
  | 126 => ⟨S16384, .f32⟩
  | 127 => ⟨S_, .f32⟩
  | _ => ⟨S4x12x64x64x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | _ => ⟨S4x12x64x64x64, .f32⟩

abbrev hbmTy (i : Nat) : BufTy := match i / 128 with
  | 0 => hbmTy0_0 i
  | 1 => hbmTy0_1 i
  | _ => ⟨S4x12x64x64x64, .f32⟩

abbrev bufTy : (tb : Table) → Fin (tcTables nBuf tb) → BufTy
  | .hbm, ⟨i, _⟩ => hbmTy i
  | _, _ => ⟨S4x12x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_call2_v0 : Ref sig .tc := ⟨.hbm, 100, rfl⟩
abbrev main_call2_v1 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_cst_18 : Ref sig .tc := ⟨.hbm, 106, rfl⟩
abbrev main_call3_v0 : Ref sig .tc := ⟨.hbm, 107, rfl⟩
abbrev main_call3_v1 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_20 : Ref sig .tc := ⟨.hbm, 117, rfl⟩
abbrev main_call4_v0 : Ref sig .tc := ⟨.hbm, 118, rfl⟩
abbrev main_call4_v1 : Ref sig .tc := ⟨.hbm, 119, rfl⟩
abbrev main_v78 : Ref sig .tc := ⟨.hbm, 120, rfl⟩
abbrev main_cst_21 : Ref sig .tc := ⟨.hbm, 121, rfl⟩
abbrev main_v79 : Ref sig .tc := ⟨.hbm, 122, rfl⟩
abbrev main_v80 : Ref sig .tc := ⟨.hbm, 123, rfl⟩
abbrev main_cst_22 : Ref sig .tc := ⟨.hbm, 124, rfl⟩
abbrev main_v81 : Ref sig .tc := ⟨.hbm, 125, rfl⟩
abbrev main_v82 : Ref sig .tc := ⟨.hbm, 126, rfl⟩
abbrev main_cst_23 : Ref sig .tc := ⟨.hbm, 127, rfl⟩
abbrev main_v83 : Ref sig .tc := ⟨.hbm, 128, rfl⟩
abbrev main_cst_24 : Ref sig .tc := ⟨.hbm, 129, rfl⟩
abbrev main_v84 : Ref sig .tc := ⟨.hbm, 130, rfl⟩
abbrev main_v85 : Ref sig .tc := ⟨.hbm, 131, rfl⟩
abbrev main_cst_25 : Ref sig .tc := ⟨.hbm, 132, rfl⟩
abbrev main_v86 : Ref sig .tc := ⟨.hbm, 133, rfl⟩
abbrev main_cst_26 : Ref sig .tc := ⟨.hbm, 134, rfl⟩
abbrev main_v87 : Ref sig .tc := ⟨.hbm, 135, rfl⟩

abbrev nD : Nat := 1
abbrev τ : Topo := Topo.v7x

variable {F : FTy → Type} [FloatOps F]
-- ==== Proof.RefRun.lean ====
/- The reference's run, read by hand: its operations as a list, and the result as a composition of named stages. -/
module

public import proofs.«01_k».proof.Proof.Gen.ReferenceIdeal
public import Idealize.ShloMosaic.Lib.StableHlo.Run
public import Idealize.ShloMosaic.Lib.Quiescent

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The larger of the two sketch channels, by its position: the reference's sketch, as words. -/
def sketch (s : FVec F S4x2x64x64x64 .f32) : IVec S4x64x64x64 32 :=
  fun j => (Host.argReduce reducer_argmax_f32_i32 s (iotaInDim S4x2x64x64x64 32 1) (constant S_ .f32 0xFF800000#32)
    (constantI S_ 32 0#32) reducesTo_S4x2x64x64x64_S4x64x64x64_d1 h_S_ j).2

/-- The exponentials of the logits, each less the largest logit of its voxel. -/
def shifted (x : FVec F S4x12x64x64x64 .f32) : FVec F S4x12x64x64x64 .f32 :=
  Host.exp (subf x (broadcastInDim S4x12x64x64x64 ![0, 1, 2, 3, 4] bcast_S4x1x64x64x64_S4x12x64x64x64_0_1_2_3_4
    (broadcastInDim S4x1x64x64x64 ![0, 2, 3, 4] bcast_S4x64x64x64_S4x1x64x64x64_0_2_3_4
      (maximumf (broadcastInDim S4x64x64x64 ![] bcast_S_S4x64x64x64 (constant S_ .f32 0xFF800000#32))
        (Host.reduce FloatOps.maximumf x (constant S_ .f32 0xFF800000#32) reducesTo_S4x12x64x64x64_S4x64x64x64_d1 h_S_)))))

/-- The softmax of the logits over the twelve classes. -/
def softmax (x : FVec F S4x12x64x64x64 .f32) : FVec F S4x12x64x64x64 .f32 :=
  Host.divf (shifted x) (broadcastInDim S4x12x64x64x64 ![0, 1, 2, 3, 4] bcast_S4x1x64x64x64_S4x12x64x64x64_0_1_2_3_4
    (broadcastInDim S4x1x64x64x64 ![0, 2, 3, 4] bcast_S4x64x64x64_S4x1x64x64x64_0_2_3_4
      (Host.reduceAdd (shifted x) (constant S_ .f32 0x00000000#32) reducesTo_S4x12x64x64x64_S4x64x64x64_d1 h_S_)))

/-- A word volume cut into its 16384 blocks of 64 voxels. -/
def blocks (y : IVec S4x1x64x64x64 32) : IVec S16384x64 32 :=
  shapeCast _ (shapeCast _ (transpose S4x16x16x16x1x4x4x4 [0, 2, 4, 6, 1, 3, 5, 7]
    (shapeCast _ y shapeCasts_S4x1x64x64x64_S4x1x16x4x16x4x16x4)
    transposes_S4x1x16x4x16x4x16x4_S4x16x16x16x1x4x4x4_0_2_4_6_1_3_5_7)
    shapeCasts_S4x16x16x16x1x4x4x4_S16384x1x64) shapeCasts_S16384x1x64_S16384x64

/-- A volume of twelve classes cut into its 16384 blocks of 64 voxels. -/
def classBlocks (y : FVec F S4x12x64x64x64 .f32) : FVec F S16384x12x64 .f32 :=
  shapeCast _ (transpose S4x16x16x16x12x4x4x4 [0, 2, 4, 6, 1, 3, 5, 7]
    (shapeCast _ y shapeCasts_S4x12x64x64x64_S4x12x16x4x16x4x16x4)
    transposes_S4x12x16x4x16x4x16x4_S4x16x16x16x12x4x4x4_0_2_4_6_1_3_5_7)
    shapeCasts_S4x16x16x16x12x4x4x4_S16384x12x64

/-- Which blocks count: a sketch voxel, a weighted voxel, and every label below 255. -/
def chosen (sk lab lw : IVec S16384x64 32) : IVec S16384 1 :=
  andi (andi
      (cmpi .sgt (Host.reduce IntOp.addi sk (constantI S_ 32 0#32) reducesTo_S16384x64_S16384_d1 h_S_)
        (broadcastInDim S16384 ![] bcast_S_S16384 (constantI S_ 32 0#32)))
      (cmpi .sgt (Host.reduce IntOp.addi lw (constantI S_ 32 0#32) reducesTo_S16384x64_S16384_d1 h_S_)
        (broadcastInDim S16384 ![] bcast_S_S16384 (constantI S_ 32 0#32))))
    (cmpi .eq
      (Host.reduce IntOp.addi (extui 32 (cmpi .slt lab (broadcastInDim S16384x64 ![] bcast_S_S16384x64 (constantI S_ 32 255#32))) natLt_1_32)
        (constantI S_ 32 0#32) reducesTo_S16384x64_S16384_d1 h_S_)
      (broadcastInDim S16384 ![] bcast_S_S16384 (constantI S_ 32 64#32)))

/-- The voxels with a positive weight, as ones and zeros. -/
def weighted (lw : IVec S16384x64 32) : FVec F S16384x64 .f32 :=
  uitofp .f32 (cmpi .sgt lw (broadcastInDim S16384x64 ![] bcast_S_S16384x64 (constantI S_ 32 0#32)))

/-- Each block's sum of the softmax over its weighted voxels, class by class. -/
def predicted (ob : FVec F S16384x12x64 .f32) (mk : FVec F S16384x64 .f32) : FVec F S16384x12 .f32 :=
  Host.reduceAdd (mulf ob (broadcastInDim S16384x12x64 ![0, 1, 2] bcast_S16384x1x64_S16384x12x64_0_1_2
      (broadcastInDim S16384x1x64 ![0, 2] bcast_S16384x64_S16384x1x64_0_2 mk)))
    (constant S_ .f32 0x00000000#32) reducesTo_S16384x12x64_S16384x12_d2 h_S_

/-- The labels as twelve columns of ones and zeros. -/
def oneHot (lab : IVec S16384x64 32) : FVec F S16384x64x12 .f32 :=
  uitofp .f32 (cmpi .eq
    (broadcastInDim S16384x64x12 ![0, 1, 2] bcast_S16384x64x1_S16384x64x12_0_1_2
      (broadcastInDim S16384x64x1 ![0, 1] bcast_S16384x64_S16384x64x1_0_1 lab))
    (broadcastInDim S16384x64x12 ![0, 1, 2] bcast_S1x1x12_S16384x64x12_0_1_2 (iotaInDim S1x1x12 32 2)))

/-- Each block's number of weighted voxels of each class. -/
def counted (lab : IVec S16384x64 32) (mk : FVec F S16384x64 .f32) : FVec F S16384x12 .f32 :=
  Host.reduceAdd (mulf (oneHot lab) (broadcastInDim S16384x64x12 ![0, 1, 2] bcast_S16384x64x1_S16384x64x12_0_1_2
      (broadcastInDim S16384x64x1 ![0, 1] bcast_S16384x64_S16384x64x1_0_1 mk)))
    (constant S_ .f32 0x00000000#32) reducesTo_S16384x64x12_S16384x12_d1 h_S_

/-- Class totals divided by their sum, the sum held above a tiny constant. -/
def shares (v : FVec F S16384x12 .f32) : FVec F S16384x12 .f32 :=
  Host.divf v (broadcastInDim S16384x12 ![0, 1] bcast_S16384x1_S16384x12_0_1
    (maximumf (broadcastInDim S16384x1 ![0] bcast_S16384_S16384x1_0
        (Host.reduceAdd v (constant S_ .f32 0x00000000#32) reducesTo_S16384x12_S16384_d1 h_S_))
      (broadcastInDim S16384x1 ![] bcast_S_S16384x1 (constant S_ .f32 0x2B8CBCCC#32))))

/-- Where a share is positive, as a mask. -/
def positive (v : FVec F S16384x12 .f32) : IVec S16384x12 1 :=
  cmpf .ogt v (broadcastInDim S16384x12 ![] bcast_S_S16384x12 (constant S_ .f32 0x00000000#32))

/-- The logarithm of a share, of one where the share is not positive. -/
def safeLog (v : FVec F S16384x12 .f32) : FVec F S16384x12 .f32 :=
  Host.log (select (positive v) v (broadcastInDim S16384x12 ![] bcast_S_S16384x12 (id (constant S_ .f32 0x3F800000#32))))

/-- Each block's divergence of the target shares `t` from the predicted shares `p`. -/
def divergence (t p : FVec F S16384x12 .f32) : FVec F S16384 .f32 :=
  Host.reduceAdd (select (positive t) (mulf t (subf (safeLog t) (safeLog p)))
      (broadcastInDim S16384x12 ![] bcast_S_S16384x12 (id (constant S_ .f32 0x00000000#32))))
    (constant S_ .f32 0x00000000#32) reducesTo_S16384x12_S16384_d1 h_S_

/-- The sum over the blocks of one vector. -/
def total (v : FVec F S16384 .f32) : FVec F S_ .f32 :=
  Host.reduceAdd v (constant S_ .f32 0x00000000#32) reducesTo_S16384_S_d0 h_S_

/-- The mean divergence over the chosen blocks, zero if there is none. -/
def mean (kl cf : FVec F S16384 .f32) : FVec F S_ .f32 :=
  select (cmpf .ogt (total cf) (constant S_ .f32 0x00000000#32))
    (Host.divf (total (mulf kl cf)) (maximumf (total cf) (constant S_ .f32 0x3F800000#32)))
    (constant S_ .f32 0x00000000#32)

/-- The reference's result as a function of the four arguments. -/
def answer (x : FVec F S4x12x64x64x64 .f32) (lab lw : IVec S4x1x64x64x64 32) (s : FVec F S4x2x64x64x64 .f32) : FVec F S_ .f32 :=
  mean (divergence (shares (counted (blocks lab) (weighted (blocks lw))))
      (shares (predicted (classBlocks (softmax x)) (weighted (blocks lw)))))
    (uitofp .f32 (chosen (blocks (broadcastInDim S4x1x64x64x64 ![0, 2, 3, 4] bcast_S4x64x64x64_S4x1x64x64x64_0_2_3_4 (sketch s)))
      (blocks lab) (blocks lw)))

/-- The reference's 132 operations, in order, a called function's in its call's place. -/
abbrev operations : List (HloOp τ sig (Elt F)) :=
  [ TRef.nullary (TRef.of (T := ⟨S4x2x64x64x64, .i32⟩) main_call0_v0) (iotaInDim S4x2x64x64x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4x2x64x64x64, .f32⟩) main_arg3) (TRef.of (T := ⟨S4x2x64x64x64, .i32⟩) main_call0_v0) (TRef.of (T := ⟨S_, .f32⟩) main_call0_cst) (TRef.of (T := ⟨S_, .i32⟩) main_call0_c) (TRef.of (T := ⟨S4x64x64x64, .f32⟩) main_call0_v1_0) (fun x y u v j => (Host.argReduce reducer_argmax_f32_i32 x y u v reducesTo_S4x2x64x64x64_S4x64x64x64_d1 h_S_ j).1),
    TRef.quaternary (TRef.of (T := ⟨S4x2x64x64x64, .f32⟩) main_arg3) (TRef.of (T := ⟨S4x2x64x64x64, .i32⟩) main_call0_v0) (TRef.of (T := ⟨S_, .f32⟩) main_call0_cst) (TRef.of (T := ⟨S_, .i32⟩) main_call0_c) (TRef.of (T := ⟨S4x64x64x64, .i32⟩) main_v0) (fun x y u v j => (Host.argReduce reducer_argmax_f32_i32 x y u v reducesTo_S4x2x64x64x64_S4x64x64x64_d1 h_S_ j).2),
    unary main_v0 main_v1 (broadcastInDim S4x1x64x64x64 ![0, 2, 3, 4] bcast_S4x64x64x64_S4x1x64x64x64_0_2_3_4 : (⟨S4x64x64x64, .i32⟩ : BufTy).Contents (Elt F) → (⟨S4x1x64x64x64, .i32⟩ : BufTy).Contents (Elt F)),
    nullary main_cst (constant S_ .f32 0xFF800000#32),
    binary main_arg0 main_cst main_v2 ((fun x v => Host.reduce FloatOps.maximumf x v reducesTo_S4x12x64x64x64_S4x64x64x64_d1 h_S_) : (⟨S4x12x64x64x64, .f32⟩ : BufTy).Contents (Elt F) → (⟨S_, .f32⟩ : BufTy).Contents (Elt F) → (⟨S4x64x64x64, .f32⟩ : BufTy).Contents (Elt F)),
    nullary main_cst_0 (constant S_ .f32 0xFF800000#32),
    unary main_cst_0 main_v3 (broadcastInDim S4x64x64x64 ![] bcast_S_S4x64x64x64 : (⟨S_, .f32⟩ : BufTy).Contents (Elt F) → (⟨S4x64x64x64, .f32⟩ : BufTy).Contents (Elt F)),
    binary main_v3 main_v2 main_v4 (maximumf : (⟨S4x64x64x64, .f32⟩ : BufTy).Contents (Elt F) → (⟨S4x64x64x64, .f32⟩ : BufTy).Contents (Elt F) → (⟨S4x64x64x64, .f32⟩ : BufTy).Contents (Elt F)),
    unary main_v4 main_v5 (broadcastInDim S4x1x64x64x64 ![0, 2, 3, 4] bcast_S4x64x64x64_S4x1x64x64x64_0_2_3_4 : (⟨S4x64x64x64, .f32⟩ : BufTy).Contents (Elt F) → (⟨S4x1x64x64x64, .f32⟩ : BufTy).Contents (Elt F)),
    unary main_v5 main_v6 (broadcastInDim S4x12x64x64x64 ![0, 1, 2, 3, 4] bcast_S4x1x64x64x64_S4x12x64x64x64_0_1_2_3_4 : (⟨S4x1x64x64x64, .f32⟩ : BufTy).Contents (Elt F) → (⟨S4x12x64x64x64, .f32⟩ : BufTy).Contents (Elt F)),
    binary main_arg0 main_v6 main_v7 (subf : (⟨S4x12x64x64x64, .f32⟩ : BufTy).Contents (Elt F) → (⟨S4x12x64x64x64, .f32⟩ : BufTy).Contents (Elt F) → (⟨S4x12x64x64x64, .f32⟩ : BufTy).Contents (Elt F)),
    unary main_v7 main_v8 (Host.exp : (⟨S4x12x64x64x64, .f32⟩ : BufTy).Contents (Elt F) → (⟨S4x12x64x64x64, .f32⟩ : BufTy).Contents (Elt F)),
    nullary main_cst_1 (constant S_ .f32 0x00000000#32),
    binary main_v8 main_cst_1 main_v9 ((fun x v => Host.reduceAdd x v reducesTo_S4x12x64x64x64_S4x64x64x64_d1 h_S_) : (⟨S4x12x64x64x64, .f32⟩ : BufTy).Contents (Elt F) → (⟨S_, .f32⟩ : BufTy).Contents (Elt F) → (⟨S4x64x64x64, .f32⟩ : BufTy).Contents (Elt F)),
    unary main_v9 main_v10 (broadcastInDim S4x1x64x64x64 ![0, 2, 3, 4] bcast_S4x64x64x64_S4x1x64x64x64_0_2_3_4 : (⟨S4x64x64x64, .f32⟩ : BufTy).Contents (Elt F) → (⟨S4x1x64x64x64, .f32⟩ : BufTy).Contents (Elt F)),
    unary main_v10 main_v11 (broadcastInDim S4x12x64x64x64 ![0, 1, 2, 3, 4] bcast_S4x1x64x64x64_S4x12x64x64x64_0_1_2_3_4 : (⟨S4x1x64x64x64, .f32⟩ : BufTy).Contents (Elt F) → (⟨S4x12x64x64x64, .f32⟩ : BufTy).Contents (Elt F)),
    binary main_v8 main_v11 main_v12 (Host.divf : (⟨S4x12x64x64x64, .f32⟩ : BufTy).Contents (Elt F) → (⟨S4x12x64x64x64, .f32⟩ : BufTy).Contents (Elt F) → (⟨S4x12x64x64x64, .f32⟩ : BufTy).Contents (Elt F)),
    reshape main_v1 main_v13 (rfl : (.i32 : EltTy) = .i32) shapeCasts_S4x1x64x64x64_S4x1x16x4x16x4x16x4,
    unary main_v13 main_v14 ((transpose S4x16x16x16x1x4x4x4 [0, 2, 4, 6, 1, 3, 5, 7] · transposes_S4x1x16x4x16x4x16x4_S4x16x16x16x1x4x4x4_0_2_4_6_1_3_5_7) : (⟨S4x1x16x4x16x4x16x4, .i32⟩ : BufTy).Contents (Elt F) → (⟨S4x16x16x16x1x4x4x4, .i32⟩ : BufTy).Contents (Elt F)),
    reshape main_v14 main_v15 (rfl : (.i32 : EltTy) = .i32) shapeCasts_S4x16x16x16x1x4x4x4_S16384x1x64,
    reshape main_v15 main_v16 (rfl : (.i32 : EltTy) = .i32) shapeCasts_S16384x1x64_S16384x64,
    reshape main_arg1 main_v17 (rfl : (.i32 : EltTy) = .i32) shapeCasts_S4x1x64x64x64_S4x1x16x4x16x4x16x4,
    unary main_v17 main_v18 ((transpose S4x16x16x16x1x4x4x4 [0, 2, 4, 6, 1, 3, 5, 7] · transposes_S4x1x16x4x16x4x16x4_S4x16x16x16x1x4x4x4_0_2_4_6_1_3_5_7) : (⟨S4x1x16x4x16x4x16x4, .i32⟩ : BufTy).Contents (Elt F) → (⟨S4x16x16x16x1x4x4x4, .i32⟩ : BufTy).Contents (Elt F)),
    reshape main_v18 main_v19 (rfl : (.i32 : EltTy) = .i32) shapeCasts_S4x16x16x16x1x4x4x4_S16384x1x64,
    reshape main_v19 main_v20 (rfl : (.i32 : EltTy) = .i32) shapeCasts_S16384x1x64_S16384x64,
    reshape main_arg2 main_v21 (rfl : (.i32 : EltTy) = .i32) shapeCasts_S4x1x64x64x64_S4x1x16x4x16x4x16x4,
    unary main_v21 main_v22 ((transpose S4x16x16x16x1x4x4x4 [0, 2, 4, 6, 1, 3, 5, 7] · transposes_S4x1x16x4x16x4x16x4_S4x16x16x16x1x4x4x4_0_2_4_6_1_3_5_7) : (⟨S4x1x16x4x16x4x16x4, .i32⟩ : BufTy).Contents (Elt F) → (⟨S4x16x16x16x1x4x4x4, .i32⟩ : BufTy).Contents (Elt F)),
    reshape main_v22 main_v23 (rfl : (.i32 : EltTy) = .i32) shapeCasts_S4x16x16x16x1x4x4x4_S16384x1x64,
    reshape main_v23 main_v24 (rfl : (.i32 : EltTy) = .i32) shapeCasts_S16384x1x64_S16384x64,
    reshape main_v12 main_v25 (rfl : (.f32 : EltTy) = .f32) shapeCasts_S4x12x64x64x64_S4x12x16x4x16x4x16x4,
    unary main_v25 main_v26 ((transpose S4x16x16x16x12x4x4x4 [0, 2, 4, 6, 1, 3, 5, 7] · transposes_S4x12x16x4x16x4x16x4_S4x16x16x16x12x4x4x4_0_2_4_6_1_3_5_7) : (⟨S4x12x16x4x16x4x16x4, .f32⟩ : BufTy).Contents (Elt F) → (⟨S4x16x16x16x12x4x4x4, .f32⟩ : BufTy).Contents (Elt F)),
    reshape main_v26 main_v27 (rfl : (.f32 : EltTy) = .f32) shapeCasts_S4x16x16x16x12x4x4x4_S16384x12x64,
    nullary main_c (constantI S_ 32 0#32),
    binary main_v16 main_c main_v28 ((fun x v => Host.reduce IntOp.addi x v reducesTo_S16384x64_S16384_d1 h_S_) : (⟨S16384x64, .i32⟩ : BufTy).Contents (Elt F) → (⟨S_, .i32⟩ : BufTy).Contents (Elt F) → (⟨S16384, .i32⟩ : BufTy).Contents (Elt F)),
    nullary main_c_2 (constantI S_ 32 0#32),
    binary main_v24 main_c_2 main_v29 ((fun x v => Host.reduce IntOp.addi x v reducesTo_S16384x64_S16384_d1 h_S_) : (⟨S16384x64, .i32⟩ : BufTy).Contents (Elt F) → (⟨S_, .i32⟩ : BufTy).Contents (Elt F) → (⟨S16384, .i32⟩ : BufTy).Contents (Elt F)),
    nullary main_c_3 (constantI S_ 32 255#32),
    unary main_c_3 main_v30 (broadcastInDim S16384x64 ![] bcast_S_S16384x64 : (⟨S_, .i32⟩ : BufTy).Contents (Elt F) → (⟨S16384x64, .i32⟩ : BufTy).Contents (Elt F)),
    binary main_v20 main_v30 main_v31 (cmpi .slt : (⟨S16384x64, .i32⟩ : BufTy).Contents (Elt F) → (⟨S16384x64, .i32⟩ : BufTy).Contents (Elt F) → (⟨S16384x64, .i1⟩ : BufTy).Contents (Elt F)),
    unary main_v31 main_v32 ((extui 32 · natLt_1_32) : (⟨S16384x64, .i1⟩ : BufTy).Contents (Elt F) → (⟨S16384x64, .i32⟩ : BufTy).Contents (Elt F)),
    nullary main_c_4 (constantI S_ 32 0#32),
    binary main_v32 main_c_4 main_v33 ((fun x v => Host.reduce IntOp.addi x v reducesTo_S16384x64_S16384_d1 h_S_) : (⟨S16384x64, .i32⟩ : BufTy).Contents (Elt F) → (⟨S_, .i32⟩ : BufTy).Contents (Elt F) → (⟨S16384, .i32⟩ : BufTy).Contents (Elt F)),
    nullary main_c_5 (constantI S_ 32 0#32),
    unary main_c_5 main_v34 (broadcastInDim S16384 ![] bcast_S_S16384 : (⟨S_, .i32⟩ : BufTy).Contents (Elt F) → (⟨S16384, .i32⟩ : BufTy).Contents (Elt F)),
    binary main_v28 main_v34 main_v35 (cmpi .sgt : (⟨S16384, .i32⟩ : BufTy).Contents (Elt F) → (⟨S16384, .i32⟩ : BufTy).Contents (Elt F) → (⟨S16384, .i1⟩ : BufTy).Contents (Elt F)),
    nullary main_c_6 (constantI S_ 32 0#32),
    unary main_c_6 main_v36 (broadcastInDim S16384 ![] bcast_S_S16384 : (⟨S_, .i32⟩ : BufTy).Contents (Elt F) → (⟨S16384, .i32⟩ : BufTy).Contents (Elt F)),
    binary main_v29 main_v36 main_v37 (cmpi .sgt : (⟨S16384, .i32⟩ : BufTy).Contents (Elt F) → (⟨S16384, .i32⟩ : BufTy).Contents (Elt F) → (⟨S16384, .i1⟩ : BufTy).Contents (Elt F)),
    binary main_v35 main_v37 main_v38 (andi : (⟨S16384, .i1⟩ : BufTy).Contents (Elt F) → (⟨S16384, .i1⟩ : BufTy).Contents (Elt F) → (⟨S16384, .i1⟩ : BufTy).Contents (Elt F)),
    nullary main_c_7 (constantI S_ 32 64#32),
    unary main_c_7 main_v39 (broadcastInDim S16384 ![] bcast_S_S16384 : (⟨S_, .i32⟩ : BufTy).Contents (Elt F) → (⟨S16384, .i32⟩ : BufTy).Contents (Elt F)),
    binary main_v33 main_v39 main_v40 (cmpi .eq : (⟨S16384, .i32⟩ : BufTy).Contents (Elt F) → (⟨S16384, .i32⟩ : BufTy).Contents (Elt F) → (⟨S16384, .i1⟩ : BufTy).Contents (Elt F)),
    binary main_v38 main_v40 main_v41 (andi : (⟨S16384, .i1⟩ : BufTy).Contents (Elt F) → (⟨S16384, .i1⟩ : BufTy).Contents (Elt F) → (⟨S16384, .i1⟩ : BufTy).Contents (Elt F)),
    nullary main_c_8 (constantI S_ 32 0#32),
    unary main_c_8 main_v42 (broadcastInDim S16384x64 ![] bcast_S_S16384x64 : (⟨S_, .i32⟩ : BufTy).Contents (Elt F) → (⟨S16384x64, .i32⟩ : BufTy).Contents (Elt F)),
    binary main_v24 main_v42 main_v43 (cmpi .sgt : (⟨S16384x64, .i32⟩ : BufTy).Contents (Elt F) → (⟨S16384x64, .i32⟩ : BufTy).Contents (Elt F) → (⟨S16384x64, .i1⟩ : BufTy).Contents (Elt F)),
    unary main_v43 main_v44 (uitofp .f32 : (⟨S16384x64, .i1⟩ : BufTy).Contents (Elt F) → (⟨S16384x64, .f32⟩ : BufTy).Contents (Elt F)),
    unary main_v44 main_v45 (broadcastInDim S16384x1x64 ![0, 2] bcast_S16384x64_S16384x1x64_0_2 : (⟨S16384x64, .f32⟩ : BufTy).Contents (Elt F) → (⟨S16384x1x64, .f32⟩ : BufTy).Contents (Elt F)),
    unary main_v45 main_v46 (broadcastInDim S16384x12x64 ![0, 1, 2] bcast_S16384x1x64_S16384x12x64_0_1_2 : (⟨S16384x1x64, .f32⟩ : BufTy).Contents (Elt F) → (⟨S16384x12x64, .f32⟩ : BufTy).Contents (Elt F)),
    binary main_v27 main_v46 main_v47 (mulf : (⟨S16384x12x64, .f32⟩ : BufTy).Contents (Elt F) → (⟨S16384x12x64, .f32⟩ : BufTy).Contents (Elt F) → (⟨S16384x12x64, .f32⟩ : BufTy).Contents (Elt F)),
    nullary main_cst_9 (constant S_ .f32 0x00000000#32),
    binary main_v47 main_cst_9 main_v48 ((fun x v => Host.reduceAdd x v reducesTo_S16384x12x64_S16384x12_d2 h_S_) : (⟨S16384x12x64, .f32⟩ : BufTy).Contents (Elt F) → (⟨S_, .f32⟩ : BufTy).Contents (Elt F) → (⟨S16384x12, .f32⟩ : BufTy).Contents (Elt F)),
    TRef.unary (TRef.of (T := ⟨S16384x64, .i32⟩) main_v20) (TRef.of (T := ⟨S16384x64x1, .i32⟩) main_call1_v0) (broadcastInDim S16384x64x1 ![0, 1] bcast_S16384x64_S16384x64x1_0_1),
    TRef.nullary (TRef.of (T := ⟨S1x1x12, .i32⟩) main_call1_v1) (iotaInDim S1x1x12 32 2),
    TRef.unary (TRef.of (T := ⟨S16384x64x1, .i32⟩) main_call1_v0) (TRef.of (T := ⟨S16384x64x12, .i32⟩) main_call1_v2) (broadcastInDim S16384x64x12 ![0, 1, 2] bcast_S16384x64x1_S16384x64x12_0_1_2),
    TRef.unary (TRef.of (T := ⟨S1x1x12, .i32⟩) main_call1_v1) (TRef.of (T := ⟨S16384x64x12, .i32⟩) main_call1_v3) (broadcastInDim S16384x64x12 ![0, 1, 2] bcast_S1x1x12_S16384x64x12_0_1_2),
    TRef.binary (TRef.of (T := ⟨S16384x64x12, .i32⟩) main_call1_v2) (TRef.of (T := ⟨S16384x64x12, .i32⟩) main_call1_v3) (TRef.of (T := ⟨S16384x64x12, .i1⟩) main_call1_v4) (cmpi .eq),
    TRef.unary (TRef.of (T := ⟨S16384x64x12, .i1⟩) main_call1_v4) (TRef.of (T := ⟨S16384x64x12, .f32⟩) main_v49) (uitofp .f32),
    unary main_v44 main_v50 (broadcastInDim S16384x64x1 ![0, 1] bcast_S16384x64_S16384x64x1_0_1 : (⟨S16384x64, .f32⟩ : BufTy).Contents (Elt F) → (⟨S16384x64x1, .f32⟩ : BufTy).Contents (Elt F)),
    unary main_v50 main_v51 (broadcastInDim S16384x64x12 ![0, 1, 2] bcast_S16384x64x1_S16384x64x12_0_1_2 : (⟨S16384x64x1, .f32⟩ : BufTy).Contents (Elt F) → (⟨S16384x64x12, .f32⟩ : BufTy).Contents (Elt F)),
    binary main_v49 main_v51 main_v52 (mulf : (⟨S16384x64x12, .f32⟩ : BufTy).Contents (Elt F) → (⟨S16384x64x12, .f32⟩ : BufTy).Contents (Elt F) → (⟨S16384x64x12, .f32⟩ : BufTy).Contents (Elt F)),
    nullary main_cst_10 (constant S_ .f32 0x00000000#32),
    binary main_v52 main_cst_10 main_v53 ((fun x v => Host.reduceAdd x v reducesTo_S16384x64x12_S16384x12_d1 h_S_) : (⟨S16384x64x12, .f32⟩ : BufTy).Contents (Elt F) → (⟨S_, .f32⟩ : BufTy).Contents (Elt F) → (⟨S16384x12, .f32⟩ : BufTy).Contents (Elt F)),
    nullary main_cst_11 (constant S_ .f32 0x00000000#32),
    binary main_v53 main_cst_11 main_v54 ((fun x v => Host.reduceAdd x v reducesTo_S16384x12_S16384_d1 h_S_) : (⟨S16384x12, .f32⟩ : BufTy).Contents (Elt F) → (⟨S_, .f32⟩ : BufTy).Contents (Elt F) → (⟨S16384, .f32⟩ : BufTy).Contents (Elt F)),
    unary main_v54 main_v55 (broadcastInDim S16384x1 ![0] bcast_S16384_S16384x1_0 : (⟨S16384, .f32⟩ : BufTy).Contents (Elt F) → (⟨S16384x1, .f32⟩ : BufTy).Contents (Elt F)),
    nullary main_cst_12 (constant S_ .f32 0x2B8CBCCC#32),
    unary main_cst_12 main_v56 (broadcastInDim S16384x1 ![] bcast_S_S16384x1 : (⟨S_, .f32⟩ : BufTy).Contents (Elt F) → (⟨S16384x1, .f32⟩ : BufTy).Contents (Elt F)),
    binary main_v55 main_v56 main_v57 (maximumf : (⟨S16384x1, .f32⟩ : BufTy).Contents (Elt F) → (⟨S16384x1, .f32⟩ : BufTy).Contents (Elt F) → (⟨S16384x1, .f32⟩ : BufTy).Contents (Elt F)),
    unary main_v57 main_v58 (broadcastInDim S16384x12 ![0, 1] bcast_S16384x1_S16384x12_0_1 : (⟨S16384x1, .f32⟩ : BufTy).Contents (Elt F) → (⟨S16384x12, .f32⟩ : BufTy).Contents (Elt F)),
    binary main_v53 main_v58 main_v59 (Host.divf : (⟨S16384x12, .f32⟩ : BufTy).Contents (Elt F) → (⟨S16384x12, .f32⟩ : BufTy).Contents (Elt F) → (⟨S16384x12, .f32⟩ : BufTy).Contents (Elt F)),
    nullary main_cst_13 (constant S_ .f32 0x00000000#32),
    binary main_v48 main_cst_13 main_v60 ((fun x v => Host.reduceAdd x v reducesTo_S16384x12_S16384_d1 h_S_) : (⟨S16384x12, .f32⟩ : BufTy).Contents (Elt F) → (⟨S_, .f32⟩ : BufTy).Contents (Elt F) → (⟨S16384, .f32⟩ : BufTy).Contents (Elt F)),
    unary main_v60 main_v61 (broadcastInDim S16384x1 ![0] bcast_S16384_S16384x1_0 : (⟨S16384, .f32⟩ : BufTy).Contents (Elt F) → (⟨S16384x1, .f32⟩ : BufTy).Contents (Elt F)),
    nullary main_cst_14 (constant S_ .f32 0x2B8CBCCC#32),
    unary main_cst_14 main_v62 (broadcastInDim S16384x1 ![] bcast_S_S16384x1 : (⟨S_, .f32⟩ : BufTy).Contents (Elt F) → (⟨S16384x1, .f32⟩ : BufTy).Contents (Elt F)),
    binary main_v61 main_v62 main_v63 (maximumf : (⟨S16384x1, .f32⟩ : BufTy).Contents (Elt F) → (⟨S16384x1, .f32⟩ : BufTy).Contents (Elt F) → (⟨S16384x1, .f32⟩ : BufTy).Contents (Elt F)),
    unary main_v63 main_v64 (broadcastInDim S16384x12 ![0, 1] bcast_S16384x1_S16384x12_0_1 : (⟨S16384x1, .f32⟩ : BufTy).Contents (Elt F) → (⟨S16384x12, .f32⟩ : BufTy).Contents (Elt F)),
    binary main_v48 main_v64 main_v65 (Host.divf : (⟨S16384x12, .f32⟩ : BufTy).Contents (Elt F) → (⟨S16384x12, .f32⟩ : BufTy).Contents (Elt F) → (⟨S16384x12, .f32⟩ : BufTy).Contents (Elt F)),
    nullary main_cst_15 (constant S_ .f32 0x00000000#32),
    unary main_cst_15 main_v66 (broadcastInDim S16384x12 ![] bcast_S_S16384x12 : (⟨S_, .f32⟩ : BufTy).Contents (Elt F) → (⟨S16384x12, .f32⟩ : BufTy).Contents (Elt F)),
    binary main_v59 main_v66 main_v67 (cmpf .ogt : (⟨S16384x12, .f32⟩ : BufTy).Contents (Elt F) → (⟨S16384x12, .f32⟩ : BufTy).Contents (Elt F) → (⟨S16384x12, .i1⟩ : BufTy).Contents (Elt F)),
    nullary main_cst_16 (constant S_ .f32 0x3F800000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S16384x12, .f32⟩) main_call2_v1) (broadcastInDim S16384x12 ![] bcast_S_S16384x12),
    TRef.ternary (TRef.of (T := ⟨S16384x12, .i1⟩) main_v67) (TRef.of (T := ⟨S16384x12, .f32⟩) main_v59) (TRef.of (T := ⟨S16384x12, .f32⟩) main_call2_v1) (TRef.of (T := ⟨S16384x12, .f32⟩) main_v68) select,
    nullary main_cst_17 (constant S_ .f32 0x00000000#32),
    unary main_cst_17 main_v69 (broadcastInDim S16384x12 ![] bcast_S_S16384x12 : (⟨S_, .f32⟩ : BufTy).Contents (Elt F) → (⟨S16384x12, .f32⟩ : BufTy).Contents (Elt F)),
    binary main_v65 main_v69 main_v70 (cmpf .ogt : (⟨S16384x12, .f32⟩ : BufTy).Contents (Elt F) → (⟨S16384x12, .f32⟩ : BufTy).Contents (Elt F) → (⟨S16384x12, .i1⟩ : BufTy).Contents (Elt F)),
    nullary main_cst_18 (constant S_ .f32 0x3F800000#32),
    TRef.unary (TRef.of (T := ⟨S_, .f32⟩) main_cst_18) (TRef.of (T := ⟨S_, .f32⟩) main_call3_v0) id,
    TRef.unary (TRef.of (T := ⟨S_, .f32⟩) main_call3_v0) (TRef.of (T := ⟨S16384x12, .f32⟩) main_call3_v1) (broadcastInDim S16384x12 ![] bcast_S_S16384x12),
    TRef.ternary (TRef.of (T := ⟨S16384x12, .i1⟩) main_v70) (TRef.of (T := ⟨S16384x12, .f32⟩) main_v65) (TRef.of (T := ⟨S16384x12, .f32⟩) main_call3_v1) (TRef.of (T := ⟨S16384x12, .f32⟩) main_v71) select,
    nullary main_cst_19 (constant S_ .f32 0x00000000#32),
    unary main_cst_19 main_v72 (broadcastInDim S16384x12 ![] bcast_S_S16384x12 : (⟨S_, .f32⟩ : BufTy).Contents (Elt F) → (⟨S16384x12, .f32⟩ : BufTy).Contents (Elt F)),
    binary main_v59 main_v72 main_v73 (cmpf .ogt : (⟨S16384x12, .f32⟩ : BufTy).Contents (Elt F) → (⟨S16384x12, .f32⟩ : BufTy).Contents (Elt F) → (⟨S16384x12, .i1⟩ : BufTy).Contents (Elt F)),
    unary main_v68 main_v74 (Host.log : (⟨S16384x12, .f32⟩ : BufTy).Contents (Elt F) → (⟨S16384x12, .f32⟩ : BufTy).Contents (Elt F)),
    unary main_v71 main_v75 (Host.log : (⟨S16384x12, .f32⟩ : BufTy).Contents (Elt F) → (⟨S16384x12, .f32⟩ : BufTy).Contents (Elt F)),
    binary main_v74 main_v75 main_v76 (subf : (⟨S16384x12, .f32⟩ : BufTy).Contents (Elt F) → (⟨S16384x12, .f32⟩ : BufTy).Contents (Elt F) → (⟨S16384x12, .f32⟩ : BufTy).Contents (Elt F)),
    binary main_v59 main_v76 main_v77 (mulf : (⟨S16384x12, .f32⟩ : BufTy).Contents (Elt F) → (⟨S16384x12, .f32⟩ : BufTy).Contents (Elt F) → (⟨S16384x12, .f32⟩ : BufTy).Contents (Elt F)),
    nullary main_cst_20 (constant S_ .f32 0x00000000#32),
    TRef.unary (TRef.of (T := ⟨S_, .f32⟩) main_cst_20) (TRef.of (T := ⟨S_, .f32⟩) main_call4_v0) id,
    TRef.unary (TRef.of (T := ⟨S_, .f32⟩) main_call4_v0) (TRef.of (T := ⟨S16384x12, .f32⟩) main_call4_v1) (broadcastInDim S16384x12 ![] bcast_S_S16384x12),
    TRef.ternary (TRef.of (T := ⟨S16384x12, .i1⟩) main_v73) (TRef.of (T := ⟨S16384x12, .f32⟩) main_v77) (TRef.of (T := ⟨S16384x12, .f32⟩) main_call4_v1) (TRef.of (T := ⟨S16384x12, .f32⟩) main_v78) select,
    nullary main_cst_21 (constant S_ .f32 0x00000000#32),
    binary main_v78 main_cst_21 main_v79 ((fun x v => Host.reduceAdd x v reducesTo_S16384x12_S16384_d1 h_S_) : (⟨S16384x12, .f32⟩ : BufTy).Contents (Elt F) → (⟨S_, .f32⟩ : BufTy).Contents (Elt F) → (⟨S16384, .f32⟩ : BufTy).Contents (Elt F)),
    unary main_v41 main_v80 (uitofp .f32 : (⟨S16384, .i1⟩ : BufTy).Contents (Elt F) → (⟨S16384, .f32⟩ : BufTy).Contents (Elt F)),
    nullary main_cst_22 (constant S_ .f32 0x00000000#32),
    binary main_v80 main_cst_22 main_v81 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v79 main_v80 main_v82 (mulf : (⟨S16384, .f32⟩ : BufTy).Contents (Elt F) → (⟨S16384, .f32⟩ : BufTy).Contents (Elt F) → (⟨S16384, .f32⟩ : BufTy).Contents (Elt F)),
    nullary main_cst_23 (constant S_ .f32 0x00000000#32),
    binary main_v82 main_cst_23 main_v83 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_24 (constant S_ .f32 0x3F800000#32),
    binary main_v81 main_cst_24 main_v84 (maximumf : (⟨S_, .f32⟩ : BufTy).Contents (Elt F) → (⟨S_, .f32⟩ : BufTy).Contents (Elt F) → (⟨S_, .f32⟩ : BufTy).Contents (Elt F)),
    binary main_v83 main_v84 main_v85 (Host.divf : (⟨S_, .f32⟩ : BufTy).Contents (Elt F) → (⟨S_, .f32⟩ : BufTy).Contents (Elt F) → (⟨S_, .f32⟩ : BufTy).Contents (Elt F)),
    nullary main_cst_25 (constant S_ .f32 0x00000000#32),
    binary main_v81 main_cst_25 main_v86 (cmpf .ogt : (⟨S_, .f32⟩ : BufTy).Contents (Elt F) → (⟨S_, .f32⟩ : BufTy).Contents (Elt F) → (⟨S_, .i1⟩ : BufTy).Contents (Elt F)),
    nullary main_cst_26 (constant S_ .f32 0x00000000#32),
    TRef.ternary (TRef.of (T := ⟨S_, .i1⟩) main_v86) (TRef.of (T := ⟨S_, .f32⟩) main_v85) (TRef.of (T := ⟨S_, .f32⟩) main_cst_26) (TRef.of (T := ⟨S_, .f32⟩) main_v87) select ]

set_option maxRecDepth 8192 in
set_option maxHeartbeats 4000000 in
/-- The reference's program is its operations in sequence. -/
theorem main_seq (c : Dev nD) : main (F := F) c = seq operations := rfl

/-- The reference has no scoped buffer. -/
theorem no_scopedRefs : (Finset.univ.filter fun b : Ref sig .tc => b.isScoped) = ∅ := by decide

/-- The reference has no scoped semaphore. -/
theorem no_scopedSems : (Finset.univ.filter fun sm : SemLoc sig => sm.isScoped .tc) = ∅ := by decide

set_option maxRecDepth 8192 in
/-- Every operation stays within the program's buffers. -/
theorem operations_sub : (operations : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., unary_bufs_sub .., reshape_bufs_sub .., reshape_bufs_sub .., reshape_bufs_sub .., unary_bufs_sub .., reshape_bufs_sub .., reshape_bufs_sub .., reshape_bufs_sub .., unary_bufs_sub .., reshape_bufs_sub .., reshape_bufs_sub .., reshape_bufs_sub .., unary_bufs_sub .., reshape_bufs_sub .., nullary_bufs_sub .., binary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., binary_bufs_sub .., nullary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., binary_bufs_sub .., binary_bufs_sub .., nullary_bufs_sub .., binary_bufs_sub .., nullary_bufs_sub .., binary_bufs_sub .., binary_bufs_sub .., nullary_bufs_sub .., binary_bufs_sub .., nullary_bufs_sub .., ternary_bufs_sub ..⟩

/-- What the operations leave at the result. -/
theorem after_result (V : Valuation τ sig (Elt F)) :
    after operations V (Proc.devRef .tc main_v87)
      = answer (V (Proc.devRef .tc main_arg0)) (V (Proc.devRef .tc main_arg1)) (V (Proc.devRef .tc main_arg2)) (V (Proc.devRef .tc main_arg3)) := by
  simp only [operations, TRef.quaternary, TRef.binary, TRef.nullary, TRef.ternary, TRef.unary, TRef.toBuf, TRef.ofBuf, cast_eq]
  after_results_simp <;> rfl

/-- The operations leave the four arguments as they were. -/
theorem after_args (V : Valuation τ sig (Elt F)) :
    after operations V (Proc.devRef .tc main_arg0) = V (Proc.devRef .tc main_arg0)
      ∧ after operations V (Proc.devRef .tc main_arg1) = V (Proc.devRef .tc main_arg1)
      ∧ after operations V (Proc.devRef .tc main_arg2) = V (Proc.devRef .tc main_arg2)
      ∧ after operations V (Proc.devRef .tc main_arg3) = V (Proc.devRef .tc main_arg3) := by
  simp only [operations, TRef.quaternary, TRef.binary, TRef.nullary, TRef.ternary, TRef.unary, TRef.toBuf, TRef.ofBuf, cast_eq]
  refine ⟨?_, ?_, ?_, ?_⟩ <;> after_results_simp

/-- The reference's run: every execution ends with the result at `answer` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = answer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v87).trans (after_result _), (h c main_arg0).trans (after_args _).1,
      (h c main_arg1).trans (after_args _).2.1, (h c main_arg2).trans (after_args _).2.2.1,
      (h c main_arg3).trans (after_args _).2.2.2⟩)
    (run_seq no_scopedRefs no_scopedSems defs main (fun _ => operations) main_seq (fun _ => operations_sub) m ρ)

/-- The reference's frame: it ends with the arguments unchanged and every counter at zero, there being no counter. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems rfl r.2⟩) (run m ρ)

end Cert.RefRun

end
-- ==== Proof.KerBlock.lean ====
/- What one grid point of the kernel computes, in named steps, and that the generated block values are these steps. -/
module

public import proofs.«01_k».proof.Proof.Gen.KernelIdeal.Frame
public import Idealize.ShloMosaic.Lib.Pipeline.Value

@[expose] public section

set_option maxRecDepth 65536

noncomputable section

namespace Cert.KerBlock

open Cert.KernelIdeal Cert.KernelIdeal.Gen Idealize.ShloMosaic Idealize.ShloMosaic.TcCoe Idealize.SL.Sem Idealize.ShloMosaic.Tactic

variable {F : FTy → Type} [FloatOps F]

/-- A depth slab of the logits block lies inside the block. -/
theorem inb_logits (h : Fin 32) (a : Fin 5) : (![0, 0, h.val, 0, 0] : Fin 5 → ℕ) a + S1x12x1x64x64.size a ≤ S1x12x32x64x64.size a := by
  have := h.isLt
  fin_cases a <;> simp [Shape.size] <;> omega

/-- A depth slab of the labels block, or of the weights block, lies inside the block. -/
theorem inb_words (h : Fin 32) (a : Fin 5) : (![0, 0, h.val, 0, 0] : Fin 5 → ℕ) a + S1x1x1x64x64.size a ≤ S1x1x32x64x64.size a := by
  have := h.isLt
  fin_cases a <;> simp [Shape.size] <;> omega

/-- A depth slab of one channel of the sketch block lies inside the block. -/
theorem inb_sketch (k : Fin 2) (h : Fin 32) (a : Fin 5) : (![0, k.val, h.val, 0, 0] : Fin 5 → ℕ) a + S1x1x1x64x64.size a ≤ S1x2x32x64x64.size a := by
  have := h.isLt; have := k.isLt
  fin_cases a <;> simp [Shape.size] <;> omega

/-- Slab `h` of the logits block. -/
def logitsAt (x0 : Vec F S1x12x32x64x64 .f32) (h : Fin 32) : Vec F S1x12x1x64x64 .f32 :=
  View.ld x0 (Rect.unit (s := S1x12x32x64x64) ![0, 0, h.val, 0, 0] S1x12x1x64x64.size (inb_logits h))

/-- Slab `h` of a block of words. -/
def wordsAt (x1 : Vec F S1x1x32x64x64 .i32) (h : Fin 32) : Vec F S1x1x1x64x64 .i32 :=
  View.ld x1 (Rect.unit (s := S1x1x32x64x64) ![0, 0, h.val, 0, 0] S1x1x1x64x64.size (inb_words h))

/-- Slab `h` of channel `k` of the sketch block. -/
def sketchAt (x3 : Vec F S1x2x32x64x64 .f32) (k : Fin 2) (h : Fin 32) : Vec F S1x1x1x64x64 .f32 :=
  View.ld x3 (Rect.unit (s := S1x2x32x64x64) ![0, k.val, h.val, 0, 0] S1x1x1x64x64.size (inb_sketch k h))

/-- The exponentials of a slab of logits. -/
def expo (v : Vec F S1x12x1x64x64 .f32) : FVec F S12x64x64 .f32 :=
  exp (shapeCast S12x64x64 v shapeCasts_S1x12x1x64x64_S12x64x64 : FVec F S12x64x64 .f32)

/-- Where the weight of a slab is positive. -/
def masked (w : Vec F S1x1x1x64x64 .i32) : IVec S64x64 1 :=
  cmpi .sgt (shapeCast S64x64 w shapeCasts_S1x1x1x64x64_S64x64 : IVec S64x64 32) (broadcast S64x64 0#32)

/-- What a slab adds to the predicted totals: the softmax where the mask is on, zero elsewhere. -/
def softPart (v : Vec F S1x12x1x64x64 .f32) (w : Vec F S1x1x1x64x64 .i32) : FVec F S12x64x64 .f32 :=
  mulf (expo v) (broadcastTo S12x64x64 (shapeCast S1x64x64 (select (masked (F := F) w)
    (divf (broadcast S64x64 (Scalar.ofBits .f32 0x3F800000#32))
      (multiReduction .add [0] S64x64 (expo v) 0x00000000#32 reduces_S12x64x64_S64x64 (.inl rfl) rfl))
    (broadcast S64x64 (Scalar.ofBits .f32 0x00000000#32))) shapeCasts_S64x64_S1x64x64 : FVec F S1x64x64 .f32) broadcasts_S1x64x64_S12x64x64)

/-- What a slab adds to the label counts: the one-hot of the label where the mask is on. -/
def labelPart (l w : Vec F S1x1x1x64x64 .i32) : FVec F S12x64x64 .f32 :=
  sitofp .f32 (extui 32 (cmpi .eq
    (broadcastTo S12x64x64 (shapeCast S1x64x64 (select (masked (F := F) w)
      (shapeCast S64x64 l shapeCasts_S1x1x1x64x64_S64x64 : IVec S64x64 32) (broadcast S64x64 12#32)) shapeCasts_S64x64_S1x64x64 : IVec S1x64x64 32)
      broadcasts_S1x64x64_S12x64x64)
    (broadcastTo S12x64x64 (iota .tc S12x1x1 32 [0] iota_S12x1x1_d0_w32) broadcasts_S12x1x1_S12x64x64)) natLt_1_32)

/-- What a slab adds to the edge counts: one where the second sketch channel is the larger. -/
def edgePart (p q : Vec F S1x1x1x64x64 .f32) : FVec F S64x64 .f32 :=
  sitofp .f32 (extui 32 (cmpf .ogt (shapeCast S64x64 p shapeCasts_S1x1x1x64x64_S64x64 : FVec F S64x64 .f32)
    (shapeCast S64x64 q shapeCasts_S1x1x1x64x64_S64x64)) natLt_1_32)

/-- Slab `j` of group `g`. -/
def slab (g : Fin 8) (j : Fin 4) : Fin 32 := ⟨4 * g.val + j.val, by have := g.isLt; have := j.isLt; omega⟩

variable (x0 : Vec F S1x12x32x64x64 .f32) (x1 x2 : Vec F S1x1x32x64x64 .i32) (x3 : Vec F S1x2x32x64x64 .f32)

/-- The predicted totals of a group of four slabs. -/
def softGroup (g : Fin 8) : FVec F S12x64x64 .f32 :=
  addf (addf (addf (addf (broadcast S12x64x64 (Scalar.ofBits .f32 0x00000000#32))
    (softPart (logitsAt x0 (slab g 0)) (wordsAt (F := F) x2 (slab g 0))))
    (softPart (logitsAt x0 (slab g 1)) (wordsAt (F := F) x2 (slab g 1))))
    (softPart (logitsAt x0 (slab g 2)) (wordsAt (F := F) x2 (slab g 2))))
    (softPart (logitsAt x0 (slab g 3)) (wordsAt (F := F) x2 (slab g 3)))

/-- The label counts of a group of four slabs. -/
def labelGroup (g : Fin 8) : FVec F S12x64x64 .f32 :=
  addf (addf (addf (addf (broadcast S12x64x64 (Scalar.ofBits .f32 0x00000000#32))
    (labelPart (wordsAt (F := F) x1 (slab g 0)) (wordsAt (F := F) x2 (slab g 0))))
    (labelPart (wordsAt (F := F) x1 (slab g 1)) (wordsAt (F := F) x2 (slab g 1))))
    (labelPart (wordsAt (F := F) x1 (slab g 2)) (wordsAt (F := F) x2 (slab g 2))))
    (labelPart (wordsAt (F := F) x1 (slab g 3)) (wordsAt (F := F) x2 (slab g 3)))

/-- The edge counts of a group of four slabs. -/
def edgeGroup (g : Fin 8) : FVec F S64x64 .f32 :=
  addf (addf (addf (addf (broadcast S64x64 (Scalar.ofBits .f32 0x00000000#32))
    (edgePart (sketchAt x3 1 (slab g 0)) (sketchAt x3 0 (slab g 0))))
    (edgePart (sketchAt x3 1 (slab g 1)) (sketchAt x3 0 (slab g 1))))
    (edgePart (sketchAt x3 1 (slab g 2)) (sketchAt x3 0 (slab g 2))))
    (edgePart (sketchAt x3 1 (slab g 3)) (sketchAt x3 0 (slab g 3)))

/-- The three totals of a group, one under another, with the last axis pooled by fours. -/
def rows (g : Fin 8) : FVec F S1600x16 .f32 :=
  matmul dot_S1600x64_S64x16_S1600x16_1_0_0_1_n_n none
    (shapeCast S1600x64 (concatenate S25x64x64 0 [⟨S12x64x64, softGroup x0 x2 g⟩, ⟨S12x64x64, labelGroup x1 x2 g⟩,
      ⟨S1x64x64, (shapeCast S1x64x64 (edgeGroup x3 g) shapeCasts_S64x64_S1x64x64 : FVec F S1x64x64 .f32)⟩]
      concatenates_S12x64x64_S12x64x64_S1x64x64_S25x64x64_d0) shapeCasts_S25x64x64_S1600x64 : FVec F S1600x64 .f32)
    k0_pay5 (constant S1600x16 .f32 0x00000000#32)

/-- The groups one under another, with the middle axis pooled by fours as well. -/
def pool (r : Fin 8 → FVec F S1600x16 .f32) : FVec F S8x25x16x16 .f32 :=
  shapeCast S8x25x16x16 (matmul dot_S3200x64_S64x16_S3200x16_1_0_0_1_n_n none
    (shapeCast S3200x64 (transpose S200x16x64 [0, 2, 1] (shapeCast S200x64x16
      (concatenate S12800x16 0 [⟨S1600x16, r 0⟩, ⟨S1600x16, r 1⟩, ⟨S1600x16, r 2⟩, ⟨S1600x16, r 3⟩, ⟨S1600x16, r 4⟩, ⟨S1600x16, r 5⟩, ⟨S1600x16, r 6⟩, ⟨S1600x16, r 7⟩]
        concatenates_S1600x16_S1600x16_S1600x16_S1600x16_S1600x16_S1600x16_S1600x16_S1600x16_S12800x16_d0) shapeCasts_S12800x16_S200x64x16 : FVec F S200x64x16 .f32)
      transposes_S200x64x16_p0_2_1_S200x16x64) shapeCasts_S200x16x64_S3200x64 : FVec F S3200x64 .f32)
    k0_pay5 (constant S3200x16 .f32 0x00000000#32) : FVec F S3200x16 .f32) shapeCasts_S3200x16_S8x25x16x16

/-- The predicted totals of every 4×4×4 block of a grid point. -/
def predOf (p : FVec F S8x25x16x16 .f32) : FVec F S8x12x16x16 .f32 :=
  extractStridedSlice S8x12x16x16 ![0, 0, 0, 0] p slices_S8x25x16x16_o0_0_0_0_S8x12x16x16

/-- The label counts of every 4×4×4 block of a grid point. -/
def countOf (p : FVec F S8x25x16x16 .f32) : FVec F S8x12x16x16 .f32 :=
  extractStridedSlice S8x12x16x16 ![0, 12, 0, 0] p slices_S8x25x16x16_o0_12_0_0_S8x12x16x16

/-- The edge counts of every 4×4×4 block of a grid point. -/
def edgeOf (p : FVec F S8x25x16x16 .f32) : FVec F S8x16x16 .f32 :=
  shapeCast S8x16x16 (extractStridedSlice S8x1x16x16 ![0, 24, 0, 0] p slices_S8x25x16x16_o0_24_0_0_S8x1x16x16 : FVec F S8x1x16x16 .f32) shapeCasts_S8x1x16x16_S8x16x16

/-- The number of counted voxels of every block. -/
def validOf (p : FVec F S8x25x16x16 .f32) : FVec F S8x16x16 .f32 :=
  multiReduction .add [1] S8x16x16 (countOf p) 0x00000000#32 reduces_S8x12x16x16_S8x16x16 (.inl rfl) rfl

/-- The divisor of a block: its number of counted voxels, kept away from zero. -/
def floorOf (p : FVec F S8x25x16x16 .f32) : FVec F S8x12x16x16 .f32 :=
  broadcastTo S8x12x16x16 (shapeCast S8x1x16x16 (maximumf (validOf p) (broadcast S8x16x16 (Scalar.ofBits .f32 0x2B8CBCCC#32)))
    shapeCasts_S8x16x16_S8x1x16x16 : FVec F S8x1x16x16 .f32) broadcasts_S8x1x16x16_S8x12x16x16

/-- The label shares. -/
def tShare (p : FVec F S8x25x16x16 .f32) : FVec F S8x12x16x16 .f32 := divf (countOf p) (floorOf p)

/-- The predicted shares. -/
def pShare (p : FVec F S8x25x16x16 .f32) : FVec F S8x12x16x16 .f32 := divf (predOf p) (floorOf p)

/-- The logarithm of the positive entries, zero's place taken by one. -/
def logOf (v : FVec F S8x12x16x16 .f32) : FVec F S8x12x16x16 .f32 :=
  log (select (cmpf .ogt v (broadcast S8x12x16x16 (Scalar.ofBits .f32 0x00000000#32))) v (broadcast S8x12x16x16 (Scalar.ofBits .f32 0x3F800000#32)))

/-- The divergence of every block. -/
def klOf (p : FVec F S8x25x16x16 .f32) : FVec F S8x16x16 .f32 :=
  multiReduction .add [1] S8x16x16 (select (cmpf .ogt (tShare p) (broadcast S8x12x16x16 (Scalar.ofBits .f32 0x00000000#32)))
    (mulf (tShare p) (subf (logOf (tShare p)) (logOf (pShare p)))) (broadcast S8x12x16x16 (Scalar.ofBits .f32 0x00000000#32)))
    0x00000000#32 reduces_S8x12x16x16_S8x16x16 (.inl rfl) rfl

/-- Which blocks are counted, as a number. -/
def condOf (p : FVec F S8x25x16x16 .f32) : FVec F S8x16x16 .f32 :=
  sitofp .f32 (extui 32 (andi (cmpf .ogt (edgeOf p) (broadcast S8x16x16 (Scalar.ofBits .f32 0x00000000#32)))
    (cmpf .ogt (validOf p) (broadcast S8x16x16 (Scalar.ofBits .f32 0x00000000#32)))) natLt_1_32)

/-- The total of an array over all blocks, as a one-by-one array. -/
def totalOf (v : FVec F S8x16x16 .f32) : FVec F S1x1 .f32 :=
  broadcast S1x1 (extractAt ![0, 0, 0, 0] (shapeCast S1x1x1x1 (multiReduction .add [1, 2, 3] S1 (shapeCast S1x8x16x16 v shapeCasts_S8x16x16_S1x8x16x16 : FVec F S1x8x16x16 .f32)
    0x00000000#32 reduces_S1x8x16x16_S1 (.inl rfl) rfl) shapeCasts_S1_S1x1x1x1) inpos_S1x1x1x1_p0_0_0_0 : F .f32)

/-- The pooled totals of a grid point. -/
def pooled : FVec F S8x25x16x16 .f32 := pool (rows x0 x1 x2 x3)

/-- A grid point's share of the loss, added to what was there. -/
def lossStep (o : FVec F S1x1 .f32) : FVec F S1x1 .f32 :=
  addf (shapeCast S1x1 o shapeCasts_S1x1_S1x1) (totalOf (mulf (klOf (pooled x0 x1 x2 x3)) (condOf (pooled x0 x1 x2 x3))))

/-- A grid point's share of the number of blocks, added to what was there. -/
def countStep (o : FVec F S1x1 .f32) : FVec F S1x1 .f32 :=
  addf (shapeCast S1x1 o shapeCasts_S1x1_S1x1) (totalOf (condOf (pooled x0 x1 x2 x3)))

/-- At a later point the block starts from what was there: the loss. -/
theorem out_B_4 (c : Dev nD) (i : grid0.Coords) (arg2 : Memref sig .tc .vmem S1x12x32x64x64 .f32) (harg2 : arg2.IsWhole) (arg3 : Memref sig .tc .vmem S1x1x32x64x64 .i32) (harg3 : arg3.IsWhole) (arg4 : Memref sig .tc .vmem S1x1x32x64x64 .i32) (harg4 : arg4.IsWhole) (arg5 : Memref sig .tc .vmem S1x2x32x64x64 .f32) (harg5 : arg5.IsWhole)
    (arg6 : Memref sig .tc .vmem S1x1 .f32) (harg6 : arg6.IsWhole) (arg7 : Memref sig .tc .vmem S1x1 .f32) (harg7 : arg7.IsWhole) (hc0 : ¬cond0_0 i) (xo4 xo5 : Vec F S1x1 .f32) :
    out0_B_4 c i arg2 harg2 arg3 harg3 arg4 harg4 arg5 harg5 arg6 harg6 arg7 harg7 hc0 x0 x1 x2 x3 xo4 xo5 = lossStep x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  simp only [View.readAt_eq_ld, harg2.read_unread, harg3.read_unread, harg4.read_unread, harg5.read_unread, harg6.read_unread, harg7.read_unread]
  rw [View.canon_unit_zero (by funext a; fin_cases a <;> rfl), View.ld_unit_zero (by funext a; fin_cases a <;> rfl)]
  rfl

/-- At a later point the block starts from what was there: the number of blocks. -/
theorem out_B_5 (c : Dev nD) (i : grid0.Coords) (arg2 : Memref sig .tc .vmem S1x12x32x64x64 .f32) (harg2 : arg2.IsWhole) (arg3 : Memref sig .tc .vmem S1x1x32x64x64 .i32) (harg3 : arg3.IsWhole) (arg4 : Memref sig .tc .vmem S1x1x32x64x64 .i32) (harg4 : arg4.IsWhole) (arg5 : Memref sig .tc .vmem S1x2x32x64x64 .f32) (harg5 : arg5.IsWhole)
    (arg6 : Memref sig .tc .vmem S1x1 .f32) (harg6 : arg6.IsWhole) (arg7 : Memref sig .tc .vmem S1x1 .f32) (harg7 : arg7.IsWhole) (hc0 : ¬cond0_0 i) (xo4 xo5 : Vec F S1x1 .f32) :
    out0_B_5 c i arg2 harg2 arg3 harg3 arg4 harg4 arg5 harg5 arg6 harg6 arg7 harg7 hc0 x0 x1 x2 x3 xo4 xo5 = countStep x0 x1 x2 x3 xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  simp only [View.readAt_eq_ld, harg2.read_unread, harg3.read_unread, harg4.read_unread, harg5.read_unread, harg6.read_unread, harg7.read_unread]
  rw [View.canon_unit_zero (by funext a; fin_cases a <;> rfl), View.ld_unit_zero (by funext a; fin_cases a <;> rfl)]
  rfl

/-- At the first point the block starts from zero: the loss. -/
theorem out_A_4 (c : Dev nD) (i : grid0.Coords) (arg2 : Memref sig .tc .vmem S1x12x32x64x64 .f32) (harg2 : arg2.IsWhole) (arg3 : Memref sig .tc .vmem S1x1x32x64x64 .i32) (harg3 : arg3.IsWhole) (arg4 : Memref sig .tc .vmem S1x1x32x64x64 .i32) (harg4 : arg4.IsWhole) (arg5 : Memref sig .tc .vmem S1x2x32x64x64 .f32) (harg5 : arg5.IsWhole)
    (arg6 : Memref sig .tc .vmem S1x1 .f32) (harg6 : arg6.IsWhole) (arg7 : Memref sig .tc .vmem S1x1 .f32) (harg7 : arg7.IsWhole) (hc0 : cond0_0 i) :
    out0_A_4 c i arg2 harg2 arg3 harg3 arg4 harg4 arg5 harg5 arg6 harg6 arg7 harg7 hc0 x0 x1 x2 x3 = lossStep x0 x1 x2 x3 (broadcast S1x1 (Scalar.ofBits .f32 0x00000000#32)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  simp only [View.readAt_eq_ld, harg2.read_unread, harg3.read_unread, harg4.read_unread, harg5.read_unread, harg6.read_unread, harg7.read_unread]
  rw [View.canon_cons_unit_zero (by funext a; fin_cases a <;> rfl)]
  exact (congrArg (k0_pay3 _) (View.readCov_unit_zero (S := S1x1) _ (by funext a; fin_cases a <;> rfl) _ _)).trans rfl

/-- At the first point the block starts from zero: the number of blocks. -/
theorem out_A_5 (c : Dev nD) (i : grid0.Coords) (arg2 : Memref sig .tc .vmem S1x12x32x64x64 .f32) (harg2 : arg2.IsWhole) (arg3 : Memref sig .tc .vmem S1x1x32x64x64 .i32) (harg3 : arg3.IsWhole) (arg4 : Memref sig .tc .vmem S1x1x32x64x64 .i32) (harg4 : arg4.IsWhole) (arg5 : Memref sig .tc .vmem S1x2x32x64x64 .f32) (harg5 : arg5.IsWhole)
    (arg6 : Memref sig .tc .vmem S1x1 .f32) (harg6 : arg6.IsWhole) (arg7 : Memref sig .tc .vmem S1x1 .f32) (harg7 : arg7.IsWhole) (hc0 : cond0_0 i) :
    out0_A_5 c i arg2 harg2 arg3 harg3 arg4 harg4 arg5 harg5 arg6 harg6 arg7 harg7 hc0 x0 x1 x2 x3 = countStep x0 x1 x2 x3 (broadcast S1x1 (Scalar.ofBits .f32 0x00000000#32)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  simp only [View.readAt_eq_ld, harg2.read_unread, harg3.read_unread, harg4.read_unread, harg5.read_unread, harg6.read_unread, harg7.read_unread]
  rw [View.canon_cons_unit_zero (by funext a; fin_cases a <;> rfl)]
  exact (congrArg (k0_pay4 _) (View.readCov_unit_zero (S := S1x1) _ (by funext a; fin_cases a <;> rfl) _ _)).trans rfl

end Cert.KerBlock
-- ==== Proof.Spec.lean ====
/- The numbers both programs compute, written once over the extended reals: the masked softmax of a voxel, the class totals of
   a 4×4×4 block, the divergence of a block, and the mean over the counted blocks. -/
module

public import Idealize.ShloMosaic.PureOps.Ideal.Laws
public import Idealize.ShloMosaic.Lib.ValueIdx
public import Idealize.ShloMosaic.Lib.IdealHost

@[expose] public section

noncomputable section

namespace Cert.Spec

open Idealize.ShloMosaic Idealize.ShloMosaic.ValueIdx

/-! ### Positions -/

/-- The number of a block by its batch entry and its three block coordinates. -/
def blockNo (b : Fin 4) (h w d : Fin 16) : Fin 16384 := ⟨((b.val * 16 + h.val) * 16 + w.val) * 16 + d.val, by omega⟩

/-- The number of a voxel within its block. -/
def voxelNo (i j k : Fin 4) : Fin 64 := ⟨(i.val * 4 + j.val) * 4 + k.val, by omega⟩

/-- A coordinate from its block's coordinate and its place in the block. -/
def at4 (h : Fin 16) (i : Fin 4) : Fin 64 := ⟨4 * h.val + i.val, by omega⟩

/-- A sum over `a * b` numbers is a sum over quotients and remainders. -/
theorem sum_split {M : Type} [AddCommMonoid M] {N : ℕ} (a b : ℕ) (hN : N = a * b) (f : Fin N → M) :
    ∑ n, f n = ∑ i : Fin a, ∑ j : Fin b, f ⟨i.val * b + j.val, by
      subst hN
      calc i.val * b + j.val < i.val * b + b := by omega
        _ = (i.val + 1) * b := by ring
        _ ≤ a * b := Nat.mul_le_mul_right b i.isLt⟩ := by
  subst hN
  rw [← Fintype.sum_prod_type' (f := fun (i : Fin a) (j : Fin b) => f ⟨i.val * b + j.val, _⟩)]
  exact (Fintype.sum_equiv finProdFinEquiv _ _ fun p => congrArg f (Fin.ext (by simp [finProdFinEquiv]; ring))).symm

/-- A sum over the voxels of a block is a sum over the three offsets. -/
theorem sum_voxels {M : Type} [AddCommMonoid M] (f : Fin 64 → M) : ∑ q, f q = ∑ i : Fin 4, ∑ j : Fin 4, ∑ k : Fin 4, f (voxelNo i j k) := by
  rw [sum_split 16 4 rfl, sum_split 4 4 rfl]
  rfl

/-- A sum over the blocks is a sum over the batch entries and the block coordinates. -/
theorem sum_blocks {M : Type} [AddCommMonoid M] (f : Fin 16384 → M) : ∑ n, f n = ∑ b : Fin 4, ∑ h : Fin 16, ∑ w : Fin 16, ∑ d : Fin 16, f (blockNo b h w d) := by
  rw [sum_split 1024 16 rfl, sum_split 64 16 rfl, sum_split 4 16 rfl]
  rfl

/-- Every block number is one of a batch entry and three block coordinates. -/
theorem exists_blockNo (n : Fin 16384) : ∃ b h w d, n = blockNo b h w d :=
  ⟨⟨n.val / 4096, by omega⟩, ⟨n.val / 256 % 16, by omega⟩, ⟨n.val / 16 % 16, by omega⟩, ⟨n.val % 16, by omega⟩,
    Fin.ext (by simp only [blockNo]; omega)⟩

/-! ### One-bit words -/

/-- A select on a decided proposition is a choice by cases. -/
theorem select_decide {α : Type} (p : Prop) [Decidable p] (x y : α) :
    Scalar.select (BitVec.ofBool (decide p)) x y = if p then x else y := by
  by_cases h : p <;> simp [h, Scalar.select]

/-- An unsigned bit as a number. -/
theorem uitofp_decide (p : Prop) [Decidable p] :
    (FloatOps.uitofp .f32 (BitVec.ofBool (decide p)) : Ideal .f32) = (if p then 1 else 0 : EReal) := by
  show (((BitVec.ofBool (decide p)).toNat : ℝ) : EReal) = _
  by_cases h : p <;> simp [h]

/-- A widened bit as a number. -/
theorem sitofp_decide (p : Prop) [Decidable p] :
    (FloatOps.sitofp .f32 ((BitVec.ofBool (decide p)).setWidth 32) : Ideal .f32) = (if p then 1 else 0 : EReal) := by
  show ((((BitVec.ofBool (decide p)).setWidth 32).toInt : ℝ) : EReal) = _
  by_cases h : p <;> simp [h]

/-- A word compared above zero. -/
theorem cmpi_sgt_zero (l : BitVec 32) : IntOp.cmpi .sgt l 0#32 = BitVec.ofBool (decide (0 < l.toInt)) := by
  show BitVec.ofBool ((0#32).slt l) = _
  rw [BitVec.slt]; rfl

/-- Two words compared for equality. -/
theorem cmpi_eq (a b : BitVec 32) : IntOp.cmpi .eq a b = BitVec.ofBool (decide (a = b)) := by
  show BitVec.ofBool (a == b) = _
  by_cases h : a = b
  · simp [h]
  · rw [beq_false_of_ne h, decide_eq_false h]

/-- The conjunction of two decided propositions. -/
theorem andi_decide (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-! ### Voxels -/

/-- A weight counts when it is positive. -/
abbrev On (l : BitVec 32) : Prop := 0 < l.toInt

/-- A voxel's softmax where it counts, zero elsewhere. -/
def soft (r : Fin 12 → EReal) (o : Prop) [Decidable o] (c : Fin 12) : EReal :=
  if o then ((Real.exp (r c).toReal / ∑ k, Real.exp (r k).toReal : ℝ) : EReal) else 0

/-- One where a voxel counts and has the class. -/
def isClass (o : Prop) [Decidable o] (l : BitVec 32) (c : Fin 12) : EReal := if o ∧ l = BitVec.ofNat 32 c.val then 1 else 0

/-- The extended real of a finite sum is the sum of the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A quotient of reals with a nonzero divisor. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The sum of exponentials is positive. -/
theorem sum_exp_pos (r : Fin 12 → ℝ) : 0 < ∑ k, Real.exp (r k) := Finset.sum_pos (fun k _ => Real.exp_pos _) ⟨0, Finset.mem_univ _⟩

/-- The softmax as an exponential times a masked reciprocal of the sum. -/
theorem soft_recip (r : Fin 12 → EReal) (hr : ∀ k, r k = ((r k).toReal : EReal)) (o : Prop) [Decidable o] (c : Fin 12) :
    Ideal.exp (r c) * (if o then Ideal.div 1 (∑ k, Ideal.exp (r k)) else 0) = soft r o c := by
  have he : ∀ k, Ideal.exp (r k) = ((Real.exp (r k).toReal : ℝ) : EReal) := fun k => by rw [hr k]; rfl
  simp only [he, ← coe_sum, soft]
  by_cases h : o
  · rw [if_pos h, if_pos h, ← EReal.coe_one, div_coe _ _ (sum_exp_pos _).ne', ← EReal.coe_mul]
    congr 1; ring
  · rw [if_neg h, if_neg h, mul_zero]

/-- The softmax as a quotient of shifted exponentials times the mask. -/
theorem soft_shift (r : Fin 12 → EReal) (hr : ∀ k, r k = ((r k).toReal : EReal)) (μ : ℝ) (o : Prop) [Decidable o] (c : Fin 12) :
    Ideal.div (Ideal.exp (r c - (μ : EReal))) (0 + ∑ k, Ideal.exp (r k - (μ : EReal))) * (if o then 1 else 0) = soft r o c := by
  have he : ∀ k, Ideal.exp (r k - (μ : EReal)) = ((Real.exp ((r k).toReal - μ) : ℝ) : EReal) := fun k => by
    rw [hr k, ← EReal.coe_sub]; rfl
  simp only [he, ← coe_sum, soft, zero_add]
  rw [div_coe _ _ (sum_exp_pos _).ne']
  by_cases h : o
  · rw [if_pos h, if_pos h, mul_one]
    congr 1
    simp only [Real.exp_sub, ← Finset.sum_div]
    have := (Real.exp_pos μ).ne'
    have := (sum_exp_pos fun k => (r k).toReal).ne'
    field_simp
  · rw [if_neg h, if_neg h, mul_zero]

/-- The masked softmax of a voxel sums to one where the voxel counts. -/
theorem sum_soft (r : Fin 12 → EReal) (o : Prop) [Decidable o] : ∑ c, soft r o c = if o then 1 else 0 := by
  unfold soft
  by_cases h : o
  · simp only [if_pos h]
    rw [← coe_sum, ← Finset.sum_div, div_self (sum_exp_pos _).ne', EReal.coe_one]
  · simp only [if_neg h, Finset.sum_const_zero]

/-- A label of one of the twelve classes has exactly one class. -/
theorem sum_isClass (o : Prop) [Decidable o] (l : BitVec 32) (h0 : 0 ≤ l.toInt) (h1 : l.toInt < 12) :
    ∑ c, isClass o l c = if o then 1 else 0 := by
  have hl : l.toNat < 12 := by
    rw [BitVec.toInt_eq_toNat_cond] at h0 h1
    have := l.isLt
    split at h0 <;> omega
  have e : ∀ c : Fin 12, (o ∧ l = BitVec.ofNat 32 c.val) ↔ (o ∧ c = ⟨l.toNat, hl⟩) := fun c => by
    refine and_congr_right fun _ => ⟨fun h => Fin.ext ?_, fun h => ?_⟩
    · have e := congrArg BitVec.toNat h
      simp only [BitVec.toNat_ofNat] at e
      show c.val = l.toNat
      omega
    · rw [h]; simp
  unfold isClass
  simp only [e]
  by_cases h : o <;> simp [h]

/-! ### Blocks -/

variable (x : (⟨5, ![4, 12, 64, 64, 64]⟩ : Shape).Idx → EReal) (lab lw : (⟨5, ![4, 1, 64, 64, 64]⟩ : Shape).Idx → BitVec 32)
  (s : (⟨5, ![4, 2, 64, 64, 64]⟩ : Shape).Idx → EReal)

/-- The twelve logits of a voxel. -/
def logits (b : Fin 4) (h w d : Fin 64) (c : Fin 12) : EReal := x (ix5 b c h w d)

/-- The predicted total of a class in a block. -/
def pred (b : Fin 4) (h w d : Fin 16) (c : Fin 12) : EReal :=
  ∑ i : Fin 4, ∑ j : Fin 4, ∑ k : Fin 4, soft (logits x b (at4 h i) (at4 w j) (at4 d k)) (On (lw (ix5 b 0 (at4 h i) (at4 w j) (at4 d k)))) c

/-- The label count of a class in a block. -/
def count (b : Fin 4) (h w d : Fin 16) (c : Fin 12) : EReal :=
  ∑ i : Fin 4, ∑ j : Fin 4, ∑ k : Fin 4, isClass (On (lw (ix5 b 0 (at4 h i) (at4 w j) (at4 d k)))) (lab (ix5 b 0 (at4 h i) (at4 w j) (at4 d k))) c

/-- Sums over the classes and over a block's voxels change places. -/
theorem sum_swap (f : Fin 12 → Fin 4 → Fin 4 → Fin 4 → EReal) : ∑ c, ∑ i : Fin 4, ∑ j : Fin 4, ∑ k : Fin 4, f c i j k = ∑ i : Fin 4, ∑ j : Fin 4, ∑ k : Fin 4, ∑ c, f c i j k := by
  rw [Finset.sum_comm]
  refine Finset.sum_congr rfl fun i _ => ?_
  rw [Finset.sum_comm]
  refine Finset.sum_congr rfl fun j _ => ?_
  rw [Finset.sum_comm]

/-- The predicted totals of a block sum to its number of counted voxels. -/
theorem sum_pred (b : Fin 4) (h w d : Fin 16) :
    ∑ c, pred x lw b h w d c = ∑ i : Fin 4, ∑ j : Fin 4, ∑ k : Fin 4, if On (lw (ix5 b 0 (at4 h i) (at4 w j) (at4 d k))) then 1 else 0 := by
  unfold pred
  rw [sum_swap]
  simp only [sum_soft]

/-- The label counts of a block sum to its number of counted voxels. -/
theorem sum_count (hlab : ∀ i, 0 ≤ (lab i).toInt ∧ (lab i).toInt < 12) (b : Fin 4) (h w d : Fin 16) :
    ∑ c, count lab lw b h w d c = ∑ i : Fin 4, ∑ j : Fin 4, ∑ k : Fin 4, if On (lw (ix5 b 0 (at4 h i) (at4 w j) (at4 d k))) then 1 else 0 := by
  unfold count
  rw [sum_swap]
  simp only [sum_isClass _ _ (hlab _).1 (hlab _).2]

/-- The number of voxels of a block at which the second sketch channel is the larger. -/
def edges (b : Fin 4) (h w d : Fin 16) : EReal :=
  ∑ i : Fin 4, ∑ j : Fin 4, ∑ k : Fin 4, if s (ix5 b 0 (at4 h i) (at4 w j) (at4 d k)) < s (ix5 b 1 (at4 h i) (at4 w j) (at4 d k)) then 1 else 0

/-- A triple sum of ones and zeros is positive exactly when a one is among them. -/
theorem sum_pos_iff (p : Fin 4 → Fin 4 → Fin 4 → Prop) [∀ i j k, Decidable (p i j k)] :
    (0 : EReal) < (∑ i : Fin 4, ∑ j : Fin 4, ∑ k : Fin 4, if p i j k then 1 else 0) ↔ ∃ i j k : Fin 4, p i j k := by
  have e : (∑ i : Fin 4, ∑ j : Fin 4, ∑ k : Fin 4, if p i j k then (1 : EReal) else 0) = (((∑ i : Fin 4, ∑ j : Fin 4, ∑ k : Fin 4, if p i j k then 1 else 0 : ℕ) : ℝ) : EReal) := by
    push_cast
    simp only [coe_sum]
    refine Finset.sum_congr rfl fun i _ => Finset.sum_congr rfl fun j _ => Finset.sum_congr rfl fun k _ => ?_
    split <;> simp
  rw [e, EReal.coe_pos, Nat.cast_pos]
  simp [Finset.sum_pos_iff, Finset.filter_nonempty_iff]

/-- The same for a sum of naturals. -/
theorem nat_sum_pos_iff (p : Fin 4 → Fin 4 → Fin 4 → Prop) [∀ i j k, Decidable (p i j k)] :
    0 < (∑ i : Fin 4, ∑ j : Fin 4, ∑ k : Fin 4, if p i j k then 1 else 0 : ℕ) ↔ ∃ i j k : Fin 4, p i j k := by
  simp [Finset.sum_pos_iff, Finset.filter_nonempty_iff]

/-- A block is counted when it has a sketch voxel and a counted voxel. -/
def Chosen (b : Fin 4) (h w d : Fin 16) : Prop :=
  (∃ i j k : Fin 4, s (ix5 b 0 (at4 h i) (at4 w j) (at4 d k)) < s (ix5 b 1 (at4 h i) (at4 w j) (at4 d k)))
    ∧ ∃ i j k : Fin 4, On (lw (ix5 b 0 (at4 h i) (at4 w j) (at4 d k)))

open Classical in
/-- One for a counted block. -/
def weight (b : Fin 4) (h w d : Fin 16) : EReal := if Chosen lw s b h w d then 1 else 0

/-! ### Divergence -/

/-- Positive, as a word. -/
abbrev posBit (t : EReal) : BitVec 1 := Ideal.cmp .ogt t 0

/-- The logarithm of a positive number, zero elsewhere. -/
def lg (t : EReal) : EReal := Ideal.log (Scalar.select (posBit t) t 1)

/-- One class's part of the divergence. -/
def term (t p : EReal) : EReal := Scalar.select (posBit t) (t * (lg t - lg p)) 0

/-- What keeps a divisor away from zero. -/
abbrev tiny : EReal := Ideal.ofBits .f32 0x2B8CBCCC#32

/-- The divergence of label counts from predicted totals, both over the counts' sum. -/
def kl (C P : Fin 12 → EReal) : EReal :=
  ∑ c, term (Ideal.div (C c) (max (∑ k, C k) tiny)) (Ideal.div (P c) (max (∑ k, C k) tiny))

/-- The loss summed over the counted blocks. -/
def lossSum : EReal := ∑ b : Fin 4, ∑ h : Fin 16, ∑ w : Fin 16, ∑ d : Fin 16, kl (count lab lw b h w d) (pred x lw b h w d) * weight lw s b h w d

/-- The number of counted blocks. -/
def countSum : EReal := ∑ b : Fin 4, ∑ h : Fin 16, ∑ w : Fin 16, ∑ d : Fin 16, weight lw s b h w d

/-- The mean loss, zero if no block is counted. -/
def meanOf (l n : EReal) : EReal := Scalar.select (posBit n) (Ideal.div l (max n 1)) 0

end Cert.Spec
-- ==== Proof.KerRead.lean ====
/- The kernel's block read at an index: the masked softmax, the labels and the edges of a slab, their groups of four slabs, and
   the pooling of the two remaining axes by fours. -/
module

public import proofs.«01_k».proof.Proof.KerBlock
public import proofs.«01_k».proof.Proof.Spec
public import Idealize.ShloMosaic.Lib.Pipeline.Value
public import Idealize.ShloMosaic.Lib.ValueIdx
public import Idealize.ShloMosaic.Lib.IdealHost
public import Idealize.ShloMosaic.Lib.MatmulPlain

@[expose] public section

set_option maxRecDepth 16384

noncomputable section

namespace Cert.KerRead

open Cert.Spec
open Cert.KernelIdeal Cert.KernelIdeal.Gen Cert.KerBlock Idealize.ShloMosaic Idealize.ShloMosaic.TcCoe Idealize.SL.Sem Idealize.ShloMosaic.ValueIdx

/-! ### Elementwise operations at an index -/

/-- An exponential at an index. -/
theorem exp_apply {S : Shape} (x : FVec Ideal S .f32) (i : S.Idx) : exp x i = Ideal.exp (x i) := rfl
/-- A logarithm at an index. -/
theorem log_apply {S : Shape} (x : FVec Ideal S .f32) (i : S.Idx) : log x i = Ideal.log (x i) := rfl
/-- A comparison of words at an index. -/
theorem cmpi_apply {S : Shape} (p : CmpIPredicate) (x y : IVec S 32) (i : S.Idx) : cmpi p x y i = IntOp.cmpi p (x i) (y i) := rfl
/-- A conjunction at an index. -/
theorem andi_apply {S : Shape} (x y : IVec S 1) (i : S.Idx) : andi x y i = IntOp.andi (x i) (y i) := rfl
/-- The scalar zero. -/
theorem scalar_zero : (Scalar.ofBits .f32 0x00000000#32 : Ideal .f32) = (0 : EReal) := Ideal.ofBits_zero_f32
/-- The scalar one. -/
theorem scalar_one : (Scalar.ofBits .f32 0x3F800000#32 : Ideal .f32) = (1 : EReal) := Ideal.ofBits_one_f32

/-! ### A slab -/

/-- A slab of logits at an index. -/
theorem logitsAt_apply (x0 : FVec Ideal S1x12x32x64x64 .f32) (h : Fin 32) (c : Fin 12) (w d : Fin 64) :
    logitsAt (F := Ideal) x0 h (ix5 0 c 0 w d) = x0 (ix5 0 c h w d) := by
  unfold logitsAt
  rw [View.ld_unit]
  exact extractStridedSlice_apply _ _ _ _ _ (fun a => by
    match a with
    | ⟨0, _⟩ => rfl
    | ⟨1, _⟩ => exact (Nat.zero_add _).symm
    | ⟨2, _⟩ => rfl
    | ⟨3, _⟩ => exact (Nat.zero_add _).symm
    | ⟨4, _⟩ => exact (Nat.zero_add _).symm)

/-- A slab of words at an index. -/
theorem wordsAt_apply (x1 : IVec S1x1x32x64x64 32) (h : Fin 32) (w d : Fin 64) :
    wordsAt (F := Ideal) x1 h (ix5 0 0 0 w d) = x1 (ix5 0 0 h w d) := by
  unfold wordsAt
  rw [View.ld_unit]
  exact extractStridedSlice_apply _ _ _ _ _ (fun a => by
    match a with
    | ⟨0, _⟩ => rfl
    | ⟨1, _⟩ => rfl
    | ⟨2, _⟩ => rfl
    | ⟨3, _⟩ => exact (Nat.zero_add _).symm
    | ⟨4, _⟩ => exact (Nat.zero_add _).symm)

/-- A slab of one sketch channel at an index. -/
theorem sketchAt_apply (x3 : FVec Ideal S1x2x32x64x64 .f32) (k : Fin 2) (h : Fin 32) (w d : Fin 64) :
    sketchAt (F := Ideal) x3 k h (ix5 0 0 0 w d) = x3 (ix5 0 k h w d) := by
  unfold sketchAt
  rw [View.ld_unit]
  exact extractStridedSlice_apply _ _ _ _ _ (fun a => by
    match a with
    | ⟨0, _⟩ => rfl
    | ⟨1, _⟩ => rfl
    | ⟨2, _⟩ => rfl
    | ⟨3, _⟩ => exact (Nat.zero_add _).symm
    | ⟨4, _⟩ => exact (Nat.zero_add _).symm)

/-- A one-channel slab without its unit axes. -/
theorem flat_apply {α : Type} (y : S1x1x1x64x64.Idx → α) (w d : Fin 64) :
    shapeCast S64x64 y shapeCasts_S1x1x1x64x64_S64x64 (ix2 w d) = y (ix5 0 0 0 w d) :=
  shapeCast_apply y _ _ _ (by rw [Shape.rowMajor_val_five, Shape.rowMajor_val_two]; show (((0 * 1 + 0) * 1 + 0) * 64 + w.val) * 64 + d.val = w.val * 64 + d.val; omega)

/-- A plane laid along twelve classes. -/
theorem along_apply {α : Type} (y : S64x64.Idx → α) (c : Fin 12) (w d : Fin 64) :
    broadcastTo S12x64x64 (shapeCast S1x64x64 y shapeCasts_S64x64_S1x64x64) broadcasts_S1x64x64_S12x64x64 (ix3 c w d) = y (ix2 w d) := by
  rw [broadcastTo_apply _ broadcasts_S1x64x64_S12x64x64 (ix3 c w d) (ix3 (0 : Fin 1) w d) (fun a => by
    match a with | ⟨0, _⟩ => rfl | ⟨1, _⟩ => rfl | ⟨2, _⟩ => rfl)]
  exact shapeCast_apply y _ _ _ (by rw [Shape.rowMajor_val_three, Shape.rowMajor_val_two]; show w.val * 64 + d.val = (0 * 64 + w.val) * 64 + d.val; omega)

/-- The exponentials of a slab at an index. -/
theorem expo_apply (v : FVec Ideal S1x12x1x64x64 .f32) (c : Fin 12) (w d : Fin 64) : expo (F := Ideal) v (ix3 c w d) = Ideal.exp (v (ix5 0 c 0 w d)) := by
  unfold expo
  rw [exp_apply, shapeCast_apply v shapeCasts_S1x12x1x64x64_S12x64x64 (ix3 c w d) (ix5 0 c 0 w d) (by
    rw [Shape.rowMajor_val_five, Shape.rowMajor_val_three]
    show (((0 * 12 + c.val) * 1 + 0) * 64 + w.val) * 64 + d.val = (c.val * 64 + w.val) * 64 + d.val
    omega)]

/-- The mask of a slab at an index. -/
theorem masked_apply (v : IVec S1x1x1x64x64 32) (w d : Fin 64) :
    masked (F := Ideal) v (ix2 w d) = BitVec.ofBool (decide (On (v (ix5 0 0 0 w d)))) := by
  unfold masked
  rw [cmpi_apply, flat_apply, broadcast_apply, cmpi_sgt_zero]

/-- The sum of a slab's exponentials at an index. -/
theorem expSum_apply (v : FVec Ideal S1x12x1x64x64 .f32) (w d : Fin 64) :
    multiReduction .add [0] S64x64 (expo (F := Ideal) v) 0x00000000#32 reduces_S12x64x64_S64x64 (.inl rfl) rfl (ix2 w d)
      = ∑ c : Fin 12, Ideal.exp (v (ix5 0 c 0 w d)) := by
  refine (Ideal.multiReduction_add_single _ _ _ _ _ _).trans ?_
  refine Finset.sum_congr rfl fun c _ => (Eq.trans ?_ (expo_apply v c w d))
  exact congrArg (expo (F := Ideal) v) (funext fun a => Fin.ext (by match a with | ⟨0, _⟩ => rfl | ⟨1, _⟩ => rfl | ⟨2, _⟩ => rfl))

/-- The numbers of the classes at an index. -/
theorem number_apply (c : Fin 12) : iota .tc S12x1x1 32 [0] iota_S12x1x1_d0_w32 (ix3 c (0 : Fin 1) (0 : Fin 1)) = BitVec.ofNat 32 c.val := by
  show BitVec.ofNat 32 (0 * 12 + c.val) = _
  rw [Nat.zero_mul, Nat.zero_add]

/-- What a slab adds to the predicted totals, at an index. -/
theorem softPart_apply (v : FVec Ideal S1x12x1x64x64 .f32) (l : IVec S1x1x1x64x64 32) (hv : ∀ i, v i = ((v i).toReal : EReal)) (c : Fin 12) (w d : Fin 64) :
    softPart (F := Ideal) v l (ix3 c w d) = soft (fun k => v (ix5 0 k 0 w d)) (On (l (ix5 0 0 0 w d))) c := by
  unfold softPart
  rw [mulf_apply, along_apply, select_apply, masked_apply, select_decide, divf_apply, broadcast_apply, broadcast_apply, expSum_apply, expo_apply,
    scalar_zero, scalar_one]
  exact soft_recip (fun k => v (ix5 0 k 0 w d)) (fun k => hv _) _ c

/-- What a slab adds to the label counts, at an index. -/
theorem labelPart_apply (v l : IVec S1x1x1x64x64 32) (c : Fin 12) (w d : Fin 64) :
    labelPart (F := Ideal) v l (ix3 c w d) = isClass (On (l (ix5 0 0 0 w d))) (v (ix5 0 0 0 w d)) c := by
  unfold labelPart
  rw [sitofp_apply, extui_apply, cmpi_apply, along_apply, select_apply, masked_apply, select_decide, flat_apply, broadcast_apply]
  rw [broadcastTo_apply _ broadcasts_S12x1x1_S12x64x64 (ix3 c w d) (ix3 c (0 : Fin 1) (0 : Fin 1)) (fun a => by
    match a with | ⟨0, _⟩ => rfl | ⟨1, _⟩ => rfl | ⟨2, _⟩ => rfl)]
  rw [number_apply]
  rw [cmpi_eq, sitofp_decide]
  unfold isClass
  refine if_congr ?_ rfl rfl
  by_cases h : On (l (ix5 0 0 0 w d))
  · rw [if_pos h]; exact (and_iff_right h).symm
  · rw [if_neg h]
    refine iff_of_false (fun e => ?_) (fun e => h e.1)
    have := congrArg BitVec.toNat e
    simp at this
    omega

/-- What a slab adds to the edge counts, at an index. -/
theorem edgePart_apply (p q : FVec Ideal S1x1x1x64x64 .f32) (w d : Fin 64) :
    edgePart (F := Ideal) p q (ix2 w d) = (if q (ix5 0 0 0 w d) < p (ix5 0 0 0 w d) then 1 else 0 : EReal) := by
  unfold edgePart
  rw [sitofp_apply, extui_apply, cmpf_apply, flat_apply, flat_apply]
  exact sitofp_decide _

/-! ### A group of four slabs -/

/-- Four terms from zero on are a sum over four. -/
theorem sum_four (f : Fin 4 → EReal) : 0 + f 0 + f 1 + f 2 + f 3 = ∑ i, f i := by
  rw [Fin.sum_univ_four, zero_add]

variable (x0 : FVec Ideal S1x12x32x64x64 .f32) (x1 x2 : IVec S1x1x32x64x64 32) (x3 : FVec Ideal S1x2x32x64x64 .f32)

/-- The predicted totals of a group at an index. -/
theorem softGroup_apply (hx : ∀ i, x0 i = ((x0 i).toReal : EReal)) (g : Fin 8) (c : Fin 12) (w d : Fin 64) :
    softGroup (F := Ideal) x0 x2 g (ix3 c w d) = ∑ i, soft (fun k => x0 (ix5 0 k (slab g i) w d)) (On (x2 (ix5 0 0 (slab g i) w d))) c := by
  have e : ∀ i, softPart (F := Ideal) (logitsAt x0 (slab g i)) (wordsAt (F := Ideal) x2 (slab g i)) (ix3 c w d)
      = soft (fun k => x0 (ix5 0 k (slab g i) w d)) (On (x2 (ix5 0 0 (slab g i) w d))) c := fun i => by
    have hv : ∀ j, logitsAt (F := Ideal) x0 (slab g i) j = ((logitsAt (F := Ideal) x0 (slab g i) j).toReal : EReal) := fun j => hx _
    rw [softPart_apply _ _ hv]
    simp only [logitsAt_apply, wordsAt_apply]
  unfold softGroup
  rw [addf_apply, addf_apply, addf_apply, addf_apply, broadcast_apply, scalar_zero, e, e, e, e]
  exact sum_four (fun i => soft (fun k => x0 (ix5 0 k (slab g i) w d)) (On (x2 (ix5 0 0 (slab g i) w d))) c)

/-- The label counts of a group at an index. -/
theorem labelGroup_apply (g : Fin 8) (c : Fin 12) (w d : Fin 64) :
    labelGroup (F := Ideal) x1 x2 g (ix3 c w d) = ∑ i, isClass (On (x2 (ix5 0 0 (slab g i) w d))) (x1 (ix5 0 0 (slab g i) w d)) c := by
  have e : ∀ i, labelPart (F := Ideal) (wordsAt (F := Ideal) x1 (slab g i)) (wordsAt (F := Ideal) x2 (slab g i)) (ix3 c w d)
      = isClass (On (x2 (ix5 0 0 (slab g i) w d))) (x1 (ix5 0 0 (slab g i) w d)) c := fun i => by
    rw [labelPart_apply]
    simp only [wordsAt_apply]
  unfold labelGroup
  rw [addf_apply, addf_apply, addf_apply, addf_apply, broadcast_apply, scalar_zero, e, e, e, e]
  exact sum_four (fun i => isClass (On (x2 (ix5 0 0 (slab g i) w d))) (x1 (ix5 0 0 (slab g i) w d)) c)

/-- The edge counts of a group at an index. -/
theorem edgeGroup_apply (g : Fin 8) (w d : Fin 64) :
    edgeGroup (F := Ideal) x3 g (ix2 w d) = ∑ i, (if x3 (ix5 0 0 (slab g i) w d) < x3 (ix5 0 1 (slab g i) w d) then 1 else 0 : EReal) := by
  have e : ∀ i, edgePart (F := Ideal) (sketchAt x3 1 (slab g i)) (sketchAt x3 0 (slab g i)) (ix2 w d)
      = (if x3 (ix5 0 0 (slab g i) w d) < x3 (ix5 0 1 (slab g i) w d) then 1 else 0 : EReal) := fun i => by
    rw [edgePart_apply, sketchAt_apply, sketchAt_apply]
  unfold edgeGroup
  rw [addf_apply, addf_apply, addf_apply, addf_apply, broadcast_apply, scalar_zero, e, e, e, e]
  exact sum_four (fun i => (if x3 (ix5 0 0 (slab g i) w d) < x3 (ix5 0 1 (slab g i) w d) then 1 else 0 : EReal))

/-! ### Pooling by fours -/

/-- The word a column's condition compares: the row's number over four. -/
def quarter (a : BitVec 32) : BitVec 32 :=
  Scalar.select (IntOp.andi (IntOp.cmpi .ne (IntOp.subi ((IntOp.cmpi .sgt a 0#32).setWidth 32) ((IntOp.cmpi .slt a 0#32).setWidth 32))
      (Scalar.subi (Scalar.extui (Scalar.cmpi .sgt 4#32 0#32)) (Scalar.extui (Scalar.cmpi .slt 4#32 0#32))))
    (IntOp.cmpi .ne (IntOp.remsi .vector a 4#32) 0#32)) (IntOp.subi (IntOp.divsi .vector a 4#32) 1#32) (IntOp.divsi .vector a 4#32)

/-- A row's word over four is the word of its quarter. -/
theorem quarter_eq : ∀ l : Fin 64, quarter (BitVec.ofNat 32 l.val) = BitVec.ofNat 32 (l.val / 4) := by
  decide

/-- The rows' numbers at an index. -/
theorem row_apply (l : Fin 64) (c : Fin 16) : iota .tc S64x16 32 [0] iota_S64x16_d0_w32 (ix2 l c) = BitVec.ofNat 32 l.val := by
  show BitVec.ofNat 32 (0 * 64 + l.val) = _
  rw [Nat.zero_mul, Nat.zero_add]

/-- The columns' numbers at an index. -/
theorem column_apply (l : Fin 64) (c : Fin 16) : iota .tc S64x16 32 [1] iota_S64x16_d1_w32 (ix2 l c) = BitVec.ofNat 32 c.val := by
  show BitVec.ofNat 32 (0 * 16 + c.val) = _
  rw [Nat.zero_mul, Nat.zero_add]

/-- The pooling matrix at an index: one where the row's quarter is the column. -/
theorem pay5_apply (l : Fin 64) (c : Fin 16) : (k0_pay5 (F := Ideal)) (ix2 l c) = (if l.val / 4 = c.val then 1 else 0 : EReal) := by
  have e : (k0_pay5 (F := Ideal)) (ix2 l c)
      = (FloatOps.sitofp .f32 ((IntOp.cmpi .eq (quarter (iota .tc S64x16 32 [0] iota_S64x16_d0_w32 (ix2 l c))) (iota .tc S64x16 32 [1] iota_S64x16_d1_w32 (ix2 l c))).setWidth 32) : Ideal .f32) := rfl
  rw [e, row_apply, column_apply, quarter_eq, cmpi_eq, sitofp_decide]
  refine if_congr ⟨fun h => ?_, fun h => by rw [h]⟩ rfl rfl
  have := congrArg BitVec.toNat h
  simp at this
  omega

end Cert.KerRead
-- ==== Proof.KerPool.lean ====
/- The kernel's pooling read at an index: each pooled entry is a sum over four rows and four columns of a group's totals, which
   for the three kinds of channel are the predicted totals, the label counts and the edge counts of a block. -/
module

public import proofs.«01_k».proof.Proof.KerRead

@[expose] public section

set_option maxRecDepth 16384

noncomputable section

namespace Cert.KerRead

open Cert.Spec
open Cert.KernelIdeal Cert.KernelIdeal.Gen Cert.KerBlock Idealize.ShloMosaic Idealize.ShloMosaic.TcCoe Idealize.SL.Sem Idealize.ShloMosaic.ValueIdx

/-- A row against the pooling matrix is the sum of the four entries of the column's quarter. -/
theorem pool_sum (f : Fin 64 → EReal) (c : Fin 16) : ∑ l, f l * (if l.val / 4 = c.val then 1 else 0 : EReal) = ∑ k : Fin 4, f (at4 c k) := by
  rw [sum_split 16 4 rfl, Finset.sum_eq_single c]
  · refine Finset.sum_congr rfl fun k _ => ?_
    rw [if_pos (show (c.val * 4 + k.val) / 4 = c.val by omega), mul_one]
    exact congrArg f (Fin.ext (by show c.val * 4 + k.val = 4 * c.val + k.val; omega))
  · intro b _ hb
    refine Finset.sum_eq_zero fun k _ => ?_
    rw [if_neg (show ¬ (b.val * 4 + k.val) / 4 = c.val from fun e => hb (Fin.ext (by omega))), mul_zero]
  · exact fun h => absurd (Finset.mem_univ c) h

/-- The row of a channel and a middle coordinate in a group. -/
def rowOf (ch : Fin 25) (w : Fin 64) : Fin 1600 := ⟨ch.val * 64 + w.val, by omega⟩

variable (x0 : FVec Ideal S1x12x32x64x64 .f32) (x1 x2 : IVec S1x1x32x64x64 32) (x3 : FVec Ideal S1x2x32x64x64 .f32)

/-- The three totals of a group as a list of pieces. -/
def layers (g : Fin 8) : List ((s : Shape) × (s.Idx → Ideal .f32)) :=
  [⟨S12x64x64, softGroup (F := Ideal) x0 x2 g⟩, ⟨S12x64x64, labelGroup (F := Ideal) x1 x2 g⟩,
      ⟨S1x64x64, (shapeCast S1x64x64 (edgeGroup (F := Ideal) x3 g) shapeCasts_S64x64_S1x64x64 : FVec Ideal S1x64x64 .f32)⟩]

/-- The three totals of a group, one under another. -/
def stacked (g : Fin 8) : FVec Ideal S25x64x64 .f32 :=
  concatenate S25x64x64 0 (layers x0 x1 x2 x3 g) concatenates_S12x64x64_S12x64x64_S1x64x64_S25x64x64_d0

/-- The stack at a predicted channel. -/
theorem stacked_soft (g : Fin 8) (c : Fin 12) (w d : Fin 64) :
    stacked x0 x1 x2 x3 g (ix3 (⟨c.val, by omega⟩ : Fin 25) w d) = softGroup (F := Ideal) x0 x2 g (ix3 c w d) :=
  concatenate_apply_piece (t := S25x64x64) 0 (layers x0 x1 x2 x3 g) _ (ix3 (⟨c.val, by omega⟩ : Fin 25) w d) 0 (show 0 < 3 by decide) S12x64x64 _ rfl rfl 0 rfl (ix3 c w d)
    (fun b hb => by match b with | ⟨0, _⟩ => exact absurd rfl hb | ⟨1, _⟩ => rfl | ⟨2, _⟩ => rfl) (Nat.zero_add _)

/-- The stack at a label channel. -/
theorem stacked_label (g : Fin 8) (c : Fin 12) (w d : Fin 64) :
    stacked x0 x1 x2 x3 g (ix3 (⟨12 + c.val, by omega⟩ : Fin 25) w d) = labelGroup (F := Ideal) x1 x2 g (ix3 c w d) :=
  concatenate_apply_piece (t := S25x64x64) 0 (layers x0 x1 x2 x3 g) _ (ix3 (⟨12 + c.val, by omega⟩ : Fin 25) w d) 1 (show 1 < 3 by decide) S12x64x64 _ rfl rfl 12 rfl (ix3 c w d)
    (fun b hb => by match b with | ⟨0, _⟩ => exact absurd rfl hb | ⟨1, _⟩ => rfl | ⟨2, _⟩ => rfl) rfl

/-- The stack at the edge channel. -/
theorem stacked_edge (g : Fin 8) (w d : Fin 64) :
    stacked x0 x1 x2 x3 g (ix3 (24 : Fin 25) w d) = edgeGroup (F := Ideal) x3 g (ix2 w d) := by
  refine (concatenate_apply_piece (t := S25x64x64) 0 (layers x0 x1 x2 x3 g) _ (ix3 (24 : Fin 25) w d) 2 (show 2 < 3 by decide) S1x64x64 _ rfl rfl 24 rfl (ix3 (0 : Fin 1) w d)
    (fun b hb => by match b with | ⟨0, _⟩ => exact absurd rfl hb | ⟨1, _⟩ => rfl | ⟨2, _⟩ => rfl) rfl).trans ?_
  exact shapeCast_apply _ _ _ _ (by rw [Shape.rowMajor_val_three, Shape.rowMajor_val_two]; show w.val * 64 + d.val = (0 * 64 + w.val) * 64 + d.val; omega)

/-- The totals of a group with the last axis pooled, at an index. -/
theorem rows_apply (g : Fin 8) (ch : Fin 25) (w : Fin 64) (d : Fin 16) :
    rows (F := Ideal) x0 x1 x2 x3 g (ix2 (rowOf ch w) d) = ∑ k : Fin 4, stacked x0 x1 x2 x3 g (ix3 ch w (at4 d k)) := by
  have e : ∀ l : Fin 64, shapeCast S1600x64 (stacked x0 x1 x2 x3 g) shapeCasts_S25x64x64_S1600x64 (ix2 (rowOf ch w) l) * (k0_pay5 (F := Ideal)) (ix2 l d)
      = stacked x0 x1 x2 x3 g (ix3 ch w l) * (if l.val / 4 = d.val then 1 else 0 : EReal) := fun l => by
    rw [pay5_apply, shapeCast_apply (stacked x0 x1 x2 x3 g) shapeCasts_S25x64x64_S1600x64 (ix2 (rowOf ch w) l) (ix3 ch w l) (by
      rw [Shape.rowMajor_val_three, Shape.rowMajor_val_two]
      show (ch.val * 64 + w.val) * 64 + l.val = (ch.val * 64 + w.val) * 64 + l.val
      rfl)]
  refine (Ideal.matmul_plain_apply (M := 1600) (K := 64) (N := 16) none (shapeCast S1600x64 (stacked x0 x1 x2 x3 g) shapeCasts_S25x64x64_S1600x64 : FVec Ideal S1600x64 .f32)
    (k0_pay5 (F := Ideal)) (constant S1600x16 .f32 0x00000000#32) (rowOf ch w) d).trans ?_
  rw [Finset.sum_congr rfl fun l _ => e l, pool_sum (fun l => stacked x0 x1 x2 x3 g (ix3 ch w l)), constant_apply, Ideal.ofBits_zero_f32, zero_add]

/-- The row of a group, a channel and a middle coordinate among all groups. -/
def rowAll (g : Fin 8) (ch : Fin 25) (w : Fin 64) : Fin 12800 := ⟨(g.val * 25 + ch.val) * 64 + w.val, by omega⟩

/-- The groups as a list of pieces. -/
def pieces (r : Fin 8 → FVec Ideal S1600x16 .f32) : List ((s : Shape) × (s.Idx → Ideal .f32)) :=
  [⟨S1600x16, r 0⟩, ⟨S1600x16, r 1⟩, ⟨S1600x16, r 2⟩, ⟨S1600x16, r 3⟩, ⟨S1600x16, r 4⟩, ⟨S1600x16, r 5⟩, ⟨S1600x16, r 6⟩, ⟨S1600x16, r 7⟩]

/-- The groups one under another, at an index. -/
theorem groups_apply (r : Fin 8 → FVec Ideal S1600x16 .f32) (g : Fin 8) (ch : Fin 25) (w : Fin 64) (d : Fin 16) :
    concatenate S12800x16 0 [⟨S1600x16, r 0⟩, ⟨S1600x16, r 1⟩, ⟨S1600x16, r 2⟩, ⟨S1600x16, r 3⟩, ⟨S1600x16, r 4⟩, ⟨S1600x16, r 5⟩, ⟨S1600x16, r 6⟩, ⟨S1600x16, r 7⟩]
        concatenates_S1600x16_S1600x16_S1600x16_S1600x16_S1600x16_S1600x16_S1600x16_S1600x16_S12800x16_d0 (ix2 (rowAll g ch w) d)
      = r g (ix2 (rowOf ch w) d) :=
  concatenate_apply_piece (t := S12800x16) 0 (pieces r) _ (ix2 (rowAll g ch w) d) g.val g.isLt S1600x16 (r g) (by fin_cases g <;> rfl) rfl (1600 * g.val)
    (by
      have e : ((pieces r).take g.val).map (·.1) = List.replicate g.val S1600x16 := by fin_cases g <;> rfl
      rw [e, List.map_replicate, List.sum_replicate, dif_pos rfl, smul_eq_mul]
      exact Nat.mul_comm g.val 1600) (ix2 (rowOf ch w) d)
    (fun b hb => by match b with | ⟨0, _⟩ => exact absurd rfl hb | ⟨1, _⟩ => rfl)
    (by show 1600 * g.val + (ch.val * 64 + w.val) = (g.val * 25 + ch.val) * 64 + w.val; omega)

/-- The pooled groups at an index. -/
theorem pool_apply (r : Fin 8 → FVec Ideal S1600x16 .f32) (g : Fin 8) (ch : Fin 25) (d w : Fin 16) :
    KerBlock.pool (F := Ideal) r (ix4 g ch d w) = ∑ j : Fin 4, r g (ix2 (rowOf ch (at4 w j)) d) := by
  let m : Fin 200 := ⟨g.val * 25 + ch.val, by omega⟩
  let q : Fin 3200 := ⟨(g.val * 25 + ch.val) * 16 + d.val, by omega⟩
  unfold KerBlock.pool
  rw [shapeCast_apply _ shapeCasts_S3200x16_S8x25x16x16 (ix4 g ch d w) (ix2 q w) (by
    rw [Shape.rowMajor_val_two, Shape.rowMajor_val_four]
    show ((g.val * 25 + ch.val) * 16 + d.val) * 16 + w.val = ((g.val * 25 + ch.val) * 16 + d.val) * 16 + w.val
    rfl)]
  refine (Ideal.matmul_plain_apply (M := 3200) (K := 64) (N := 16) none _ (k0_pay5 (F := Ideal)) (constant S3200x16 .f32 0x00000000#32) q w).trans ?_
  rw [constant_apply, Ideal.ofBits_zero_f32, zero_add]
  refine (Finset.sum_congr rfl fun l _ => ?_).trans (pool_sum (fun l => r g (ix2 (rowOf ch l) d)) w)
  rw [pay5_apply, shapeCast_apply _ shapeCasts_S200x16x64_S3200x64 (ix2 q l) (ix3 m d l) (by
    rw [Shape.rowMajor_val_two, Shape.rowMajor_val_three]
    show ((g.val * 25 + ch.val) * 16 + d.val) * 64 + l.val = ((g.val * 25 + ch.val) * 16 + d.val) * 64 + l.val
    rfl)]
  rw [transpose_apply _ _ transposes_S200x64x16_p0_2_1_S200x16x64 (ix3 m d l) (ix3 m l d) (fun b => by
    match b with | ⟨0, _⟩ => rfl | ⟨1, _⟩ => rfl | ⟨2, _⟩ => rfl)]
  rw [shapeCast_apply _ shapeCasts_S12800x16_S200x64x16 (ix3 m l d) (ix2 (rowAll g ch l) d) (by
    rw [Shape.rowMajor_val_two, Shape.rowMajor_val_three]
    show ((g.val * 25 + ch.val) * 64 + l.val) * 16 + d.val = ((g.val * 25 + ch.val) * 64 + l.val) * 16 + d.val
    rfl)]
  rw [groups_apply]

/-- The pooled totals at an index. -/
theorem pooled_apply (g : Fin 8) (ch : Fin 25) (d w : Fin 16) :
    pooled (F := Ideal) x0 x1 x2 x3 (ix4 g ch d w) = ∑ j : Fin 4, ∑ k : Fin 4, stacked x0 x1 x2 x3 g (ix3 ch (at4 w j) (at4 d k)) := by
  unfold pooled
  rw [pool_apply]
  exact Finset.sum_congr rfl fun j _ => rows_apply x0 x1 x2 x3 g ch (at4 w j) d

/-- A sum over three coordinates with the first one's sum moved outside. -/
theorem sum_turn (f : Fin 4 → Fin 4 → Fin 4 → EReal) : ∑ j : Fin 4, ∑ k : Fin 4, ∑ i : Fin 4, f i j k = ∑ i : Fin 4, ∑ j : Fin 4, ∑ k : Fin 4, f i j k := by
  rw [Finset.sum_comm (s := (Finset.univ : Finset (Fin 4))) (f := fun i j => ∑ k : Fin 4, f i j k)]
  exact Finset.sum_congr rfl fun j _ => Finset.sum_comm

/-- The predicted totals at an index. -/
theorem predOf_apply (hx : ∀ i, x0 i = ((x0 i).toReal : EReal)) (g : Fin 8) (c : Fin 12) (d w : Fin 16) :
    predOf (pooled (F := Ideal) x0 x1 x2 x3) (ix4 g c d w)
      = ∑ i : Fin 4, ∑ j : Fin 4, ∑ k : Fin 4, soft (fun n => x0 (ix5 0 n (slab g i) (at4 w j) (at4 d k))) (On (x2 (ix5 0 0 (slab g i) (at4 w j) (at4 d k)))) c := by
  unfold predOf
  rw [extractStridedSlice_apply _ _ slices_S8x25x16x16_o0_0_0_0_S8x12x16x16 (ix4 g c d w) (ix4 g (⟨c.val, by omega⟩ : Fin 25) d w) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm), pooled_apply]
  simp only [stacked_soft, softGroup_apply x0 x2 hx]
  exact sum_turn (fun i j k => soft (fun n => x0 (ix5 0 n (slab g i) (at4 w j) (at4 d k))) (On (x2 (ix5 0 0 (slab g i) (at4 w j) (at4 d k)))) c)

/-- The label counts at an index. -/
theorem countOf_apply (g : Fin 8) (c : Fin 12) (d w : Fin 16) :
    countOf (pooled (F := Ideal) x0 x1 x2 x3) (ix4 g c d w)
      = ∑ i : Fin 4, ∑ j : Fin 4, ∑ k : Fin 4, isClass (On (x2 (ix5 0 0 (slab g i) (at4 w j) (at4 d k)))) (x1 (ix5 0 0 (slab g i) (at4 w j) (at4 d k))) c := by
  unfold countOf
  rw [extractStridedSlice_apply _ _ slices_S8x25x16x16_o0_12_0_0_S8x12x16x16 (ix4 g c d w) (ix4 g (⟨12 + c.val, by omega⟩ : Fin 25) d w) (fun a => by
    match a with
    | ⟨0, _⟩ => exact (Nat.zero_add _).symm
    | ⟨1, _⟩ => rfl
    | ⟨2, _⟩ => exact (Nat.zero_add _).symm
    | ⟨3, _⟩ => exact (Nat.zero_add _).symm), pooled_apply]
  simp only [stacked_label, labelGroup_apply]
  exact sum_turn (fun i j k => isClass (On (x2 (ix5 0 0 (slab g i) (at4 w j) (at4 d k)))) (x1 (ix5 0 0 (slab g i) (at4 w j) (at4 d k))) c)

/-- The edge counts at an index. -/
theorem edgeOf_apply (g : Fin 8) (d w : Fin 16) :
    edgeOf (pooled (F := Ideal) x0 x1 x2 x3) (ix3 g d w)
      = ∑ i : Fin 4, ∑ j : Fin 4, ∑ k : Fin 4, (if x3 (ix5 0 0 (slab g i) (at4 w j) (at4 d k)) < x3 (ix5 0 1 (slab g i) (at4 w j) (at4 d k)) then 1 else 0 : EReal) := by
  unfold edgeOf
  rw [shapeCast_apply _ shapeCasts_S8x1x16x16_S8x16x16 (ix3 g d w) (ix4 g (0 : Fin 1) d w) (by
    rw [Shape.rowMajor_val_three, Shape.rowMajor_val_four]
    show ((g.val * 1 + 0) * 16 + d.val) * 16 + w.val = (g.val * 16 + d.val) * 16 + w.val
    omega)]
  rw [extractStridedSlice_apply _ _ slices_S8x25x16x16_o0_24_0_0_S8x1x16x16 (ix4 g (0 : Fin 1) d w) (ix4 g (24 : Fin 25) d w) (fun a => by
    match a with
    | ⟨0, _⟩ => exact (Nat.zero_add _).symm
    | ⟨1, _⟩ => rfl
    | ⟨2, _⟩ => exact (Nat.zero_add _).symm
    | ⟨3, _⟩ => exact (Nat.zero_add _).symm), pooled_apply]
  simp only [stacked_edge, edgeGroup_apply]
  exact sum_turn (fun i j k => if x3 (ix5 0 0 (slab g i) (at4 w j) (at4 d k)) < x3 (ix5 0 1 (slab g i) (at4 w j) (at4 d k)) then 1 else 0)

end Cert.KerRead
-- ==== Proof.KerPoint.lean ====
/- What one grid point of the kernel adds to the two accumulators: the loss and the number of the counted blocks of one half of one
   batch entry. -/
module

public import proofs.«01_k».proof.Proof.KerPool

@[expose] public section

set_option maxRecDepth 16384

noncomputable section

namespace Cert.KerRead

open Cert.Spec
open Cert.KernelIdeal Cert.KernelIdeal.Gen Cert.KerBlock Idealize.ShloMosaic Idealize.ShloMosaic.TcCoe Idealize.SL.Sem Idealize.ShloMosaic.ValueIdx

/-- A row of a half. -/
def half (e : Fin 2) (h : Fin 32) : Fin 64 := ⟨32 * e.val + h.val, by omega⟩

/-- A row of blocks of a half. -/
def rowBlock (e : Fin 2) (g : Fin 8) : Fin 16 := ⟨8 * e.val + g.val, by omega⟩

/-- A slab of a group of a half is a row of the block. -/
theorem half_slab (e : Fin 2) (g : Fin 8) (i : Fin 4) : half e (slab g i) = at4 (rowBlock e g) i :=
  Fin.ext (by show 32 * e.val + (4 * g.val + i.val) = 4 * (8 * e.val + g.val) + i.val; omega)

variable (x0 : FVec Ideal S1x12x32x64x64 .f32) (x1 x2 : IVec S1x1x32x64x64 32) (x3 : FVec Ideal S1x2x32x64x64 .f32)
variable (x : (⟨5, ![4, 12, 64, 64, 64]⟩ : Shape).Idx → EReal) (lab lw : (⟨5, ![4, 1, 64, 64, 64]⟩ : Shape).Idx → BitVec 32)
  (s : (⟨5, ![4, 2, 64, 64, 64]⟩ : Shape).Idx → EReal)

/-- The four blocks a grid point reads are the half `e` of the batch entry `b` of the four arrays. -/
structure Part (b : Fin 4) (e : Fin 2) : Prop where
  logits : ∀ (c : Fin 12) (h : Fin 32) (w d : Fin 64), x0 (ix5 0 c h w d) = x (ix5 b c (half e h) w d)
  labels : ∀ (h : Fin 32) (w d : Fin 64), x1 (ix5 0 0 h w d) = lab (ix5 b 0 (half e h) w d)
  weights : ∀ (h : Fin 32) (w d : Fin 64), x2 (ix5 0 0 h w d) = lw (ix5 b 0 (half e h) w d)
  sketch : ∀ (k : Fin 2) (h : Fin 32) (w d : Fin 64), x3 (ix5 0 k h w d) = s (ix5 b k (half e h) w d)

variable {x0 x1 x2 x3 x lab lw s} {b : Fin 4} {e : Fin 2} (P : Part x0 x1 x2 x3 x lab lw s b e)

include P

/-- The logits of a block are finite where the whole array is. -/
theorem Part.finite (hx : ∀ i, x i = ((x i).toReal : EReal)) (i : S1x12x32x64x64.Idx) : x0 i = ((x0 i).toReal : EReal) := by
  have ei : ∃ (c : Fin 12) (h : Fin 32) (w d : Fin 64), i = ix5 (0 : Fin 1) c h w d := ⟨i 1, i 2, i 3, i 4, by
    refine (eq_ix5 i).trans ?_
    rw [show i 0 = (0 : Fin 1) from Subsingleton.elim (α := Fin 1) _ _]
    rfl⟩
  obtain ⟨c, h, w, d, rfl⟩ := ei
  rw [P.logits c h w d]
  exact hx _

/-- The predicted totals are those of the block. -/
theorem Part.pred_eq (hx : ∀ i, x i = ((x i).toReal : EReal)) (g : Fin 8) (c : Fin 12) (d w : Fin 16) :
    predOf (pooled (F := Ideal) x0 x1 x2 x3) (ix4 g c d w) = pred x lw b (rowBlock e g) w d c := by
  rw [predOf_apply x0 x1 x2 x3 (P.finite hx)]
  unfold pred Spec.logits
  simp only [P.logits, P.weights, half_slab]

/-- The label counts are those of the block. -/
theorem Part.count_eq (g : Fin 8) (c : Fin 12) (d w : Fin 16) :
    countOf (pooled (F := Ideal) x0 x1 x2 x3) (ix4 g c d w) = count lab lw b (rowBlock e g) w d c := by
  rw [countOf_apply x0 x1 x2 x3]
  unfold Spec.count
  simp only [P.labels, P.weights, half_slab]

/-- The edge counts are those of the block. -/
theorem Part.edge_eq (g : Fin 8) (d w : Fin 16) :
    edgeOf (pooled (F := Ideal) x0 x1 x2 x3) (ix3 g d w) = edges s b (rowBlock e g) w d := by
  rw [edgeOf_apply x0 x1 x2 x3]
  unfold edges
  simp only [P.sketch, half_slab]

omit P in
/-- A sum over the channels at an index. -/
theorem channels_apply (v : FVec Ideal S8x12x16x16 .f32) (g : Fin 8) (d w : Fin 16) :
    multiReduction .add [1] S8x16x16 v 0x00000000#32 reduces_S8x12x16x16_S8x16x16 (.inl rfl) rfl (ix3 g d w) = ∑ c : Fin 12, v (ix4 g c d w) := by
  refine (Ideal.multiReduction_add_single _ _ _ _ _ _).trans ?_
  refine Finset.sum_congr rfl fun c _ => ?_
  exact congrArg v (funext fun a => Fin.ext (by match a with | ⟨0, _⟩ => rfl | ⟨1, _⟩ => rfl | ⟨2, _⟩ => rfl | ⟨3, _⟩ => rfl))

/-- The number of counted voxels of a block. -/
theorem Part.valid_eq (g : Fin 8) (d w : Fin 16) :
    validOf (pooled (F := Ideal) x0 x1 x2 x3) (ix3 g d w) = ∑ c, count lab lw b (rowBlock e g) w d c := by
  unfold validOf
  rw [channels_apply]
  exact Finset.sum_congr rfl fun c _ => P.count_eq g c d w

/-- The divisor of a block. -/
theorem Part.floor_eq (g : Fin 8) (c : Fin 12) (d w : Fin 16) :
    floorOf (pooled (F := Ideal) x0 x1 x2 x3) (ix4 g c d w) = max (∑ c, count lab lw b (rowBlock e g) w d c) tiny := by
  unfold floorOf
  rw [broadcastTo_apply _ broadcasts_S8x1x16x16_S8x12x16x16 (ix4 g c d w) (ix4 g (0 : Fin 1) d w) (fun a => by
    match a with | ⟨0, _⟩ => rfl | ⟨1, _⟩ => rfl | ⟨2, _⟩ => rfl | ⟨3, _⟩ => rfl)]
  rw [shapeCast_apply _ shapeCasts_S8x16x16_S8x1x16x16 (ix4 g (0 : Fin 1) d w) (ix3 g d w) (by
    rw [Shape.rowMajor_val_three, Shape.rowMajor_val_four]
    show (g.val * 16 + d.val) * 16 + w.val = ((g.val * 1 + 0) * 16 + d.val) * 16 + w.val
    omega)]
  rw [maximumf_apply, P.valid_eq, broadcast_apply]
  rfl

/-- The label shares of a block. -/
theorem Part.tShare_eq (g : Fin 8) (c : Fin 12) (d w : Fin 16) :
    tShare (pooled (F := Ideal) x0 x1 x2 x3) (ix4 g c d w)
      = Ideal.div (count lab lw b (rowBlock e g) w d c) (max (∑ c, count lab lw b (rowBlock e g) w d c) tiny) := by
  unfold tShare
  rw [divf_apply, P.count_eq, P.floor_eq]

/-- The predicted shares of a block. -/
theorem Part.pShare_eq (hx : ∀ i, x i = ((x i).toReal : EReal)) (g : Fin 8) (c : Fin 12) (d w : Fin 16) :
    pShare (pooled (F := Ideal) x0 x1 x2 x3) (ix4 g c d w)
      = Ideal.div (pred x lw b (rowBlock e g) w d c) (max (∑ c, count lab lw b (rowBlock e g) w d c) tiny) := by
  unfold pShare
  rw [divf_apply, P.pred_eq hx, P.floor_eq]

omit P in
/-- The guarded logarithm at an index. -/
theorem logOf_apply (v : FVec Ideal S8x12x16x16 .f32) (i : S8x12x16x16.Idx) : logOf (F := Ideal) v i = lg (v i) := by
  unfold logOf lg
  rw [log_apply, select_apply, cmpf_apply, broadcast_apply, broadcast_apply, scalar_zero, scalar_one]
  rfl

/-- The divergence of a block. -/
theorem Part.kl_eq (hx : ∀ i, x i = ((x i).toReal : EReal)) (g : Fin 8) (d w : Fin 16) :
    klOf (pooled (F := Ideal) x0 x1 x2 x3) (ix3 g d w) = kl (count lab lw b (rowBlock e g) w d) (pred x lw b (rowBlock e g) w d) := by
  unfold klOf kl
  rw [channels_apply]
  refine Finset.sum_congr rfl fun c _ => ?_
  rw [select_apply, cmpf_apply, mulf_apply, subf_apply, logOf_apply, logOf_apply, broadcast_apply, scalar_zero, P.tShare_eq, P.pShare_eq hx]
  rfl

/-- Which blocks are counted. -/
theorem Part.cond_eq (hlab : ∀ i, 0 ≤ (lab i).toInt ∧ (lab i).toInt < 12) (g : Fin 8) (d w : Fin 16) :
    condOf (pooled (F := Ideal) x0 x1 x2 x3) (ix3 g d w) = weight lw s b (rowBlock e g) w d := by
  classical
  unfold condOf
  rw [sitofp_apply, extui_apply, andi_apply, cmpf_apply, cmpf_apply, broadcast_apply, scalar_zero, P.edge_eq, P.valid_eq, sum_count lab lw hlab]
  refine (congrArg (fun q : BitVec 1 => (FloatOps.sitofp .f32 (q.setWidth 32) : Ideal .f32)) (andi_decide _ _)).trans ?_
  refine (sitofp_decide _).trans ?_
  have q : (0 < edges s b (rowBlock e g) w d
      ∧ (0 : EReal) < ∑ i : Fin 4, ∑ j : Fin 4, ∑ k : Fin 4, if On (lw (ix5 b 0 (at4 (rowBlock e g) i) (at4 w j) (at4 d k))) then 1 else 0)
      ↔ Chosen lw s b (rowBlock e g) w d := and_congr (sum_pos_iff _) (sum_pos_iff _)
  unfold weight
  by_cases h : Chosen lw s b (rowBlock e g) w d
  · rw [if_pos h, if_pos (q.mpr h)]
  · rw [if_neg h, if_neg fun t => h (q.mp t)]

omit P in
/-- The indices of a one-entry stack of blocks are three coordinates. -/
def coords : S1x8x16x16.Idx ≃ Fin 8 × Fin 16 × Fin 16 where
  toFun i := (i 1, i 2, i 3)
  invFun p := ix4 (0 : Fin 1) p.1 p.2.1 p.2.2
  left_inv i := by
    refine ((eq_ix4 i).trans ?_).symm
    rw [show i 0 = (0 : Fin 1) from Subsingleton.elim (α := Fin 1) _ _]
    rfl
  right_inv p := rfl

omit P in
/-- The total of an array over all blocks. -/
theorem totalOf_apply (v : FVec Ideal S8x16x16 .f32) (j : S1x1.Idx) :
    totalOf (F := Ideal) v j = ∑ g : Fin 8, ∑ d : Fin 16, ∑ w : Fin 16, v (ix3 g d w) := by
  have e : ∀ p : Fin 8 × Fin 16 × Fin 16, shapeCast S1x8x16x16 v shapeCasts_S8x16x16_S1x8x16x16 (coords.symm p) = v (ix3 p.1 p.2.1 p.2.2) := fun p =>
    shapeCast_apply _ _ _ _ (by
      show (S8x16x16.rowMajor (ix3 p.1 p.2.1 p.2.2)).val = (S1x8x16x16.rowMajor (ix4 (0 : Fin 1) p.1 p.2.1 p.2.2)).val
      rw [Shape.rowMajor_val_three, Shape.rowMajor_val_four]
      show (p.1.val * 16 + p.2.1.val) * 16 + p.2.2.val = ((0 * 8 + p.1.val) * 16 + p.2.1.val) * 16 + p.2.2.val
      omega)
  unfold totalOf
  rw [broadcast_apply]
  unfold extractAt
  rw [shapeCast_apply _ shapeCasts_S1_S1x1x1x1 _ (ix1 (0 : Fin 1)) (by decide)]
  refine (Ideal.multiReduction_add_total _ _ reduces_S1x8x16x16_S1 (fun b => by match b with | ⟨0, _⟩ => rfl) _ _ _).trans ?_
  rw [← Equiv.sum_comp coords.symm, Finset.sum_congr rfl fun p _ => e p, Fintype.sum_prod_type]
  exact Finset.sum_congr rfl fun g _ => Fintype.sum_prod_type _

omit P in
/-- A one-by-one array kept in its shape. -/
theorem same_apply (o : FVec Ideal S1x1 .f32) (j : S1x1.Idx) : shapeCast S1x1 o shapeCasts_S1x1_S1x1 j = o j :=
  shapeCast_apply o _ j j rfl

/-- What a grid point adds to the loss. -/
theorem Part.loss_eq (hx : ∀ i, x i = ((x i).toReal : EReal)) (hlab : ∀ i, 0 ≤ (lab i).toInt ∧ (lab i).toInt < 12) (o : FVec Ideal S1x1 .f32) (j : S1x1.Idx) :
    lossStep (F := Ideal) x0 x1 x2 x3 o j = o j + ∑ g : Fin 8, ∑ w : Fin 16, ∑ d : Fin 16,
      kl (count lab lw b (rowBlock e g) w d) (pred x lw b (rowBlock e g) w d) * weight lw s b (rowBlock e g) w d := by
  unfold lossStep
  rw [addf_apply, same_apply, totalOf_apply]
  have q : ∀ g d w, mulf (klOf (pooled (F := Ideal) x0 x1 x2 x3)) (condOf (pooled (F := Ideal) x0 x1 x2 x3)) (ix3 g d w)
      = kl (count lab lw b (rowBlock e g) w d) (pred x lw b (rowBlock e g) w d) * weight lw s b (rowBlock e g) w d := fun g d w => by
    rw [mulf_apply, P.kl_eq hx, P.cond_eq hlab]
  simp only [q]
  rw [Finset.sum_congr rfl fun g _ => Finset.sum_comm]

/-- What a grid point adds to the number of blocks. -/
theorem Part.number_eq (hlab : ∀ i, 0 ≤ (lab i).toInt ∧ (lab i).toInt < 12) (o : FVec Ideal S1x1 .f32) (j : S1x1.Idx) :
    countStep (F := Ideal) x0 x1 x2 x3 o j = o j + ∑ g : Fin 8, ∑ w : Fin 16, ∑ d : Fin 16, weight lw s b (rowBlock e g) w d := by
  unfold countStep
  rw [addf_apply, same_apply, totalOf_apply]
  simp only [P.cond_eq hlab]
  rw [Finset.sum_congr rfl fun g _ => Finset.sum_comm]

end Cert.KerRead
-- ==== Proof.KerRun.lean ====
/- The kernel's program run: what its two accumulators hold after the last grid point, and its result. -/
module

public import proofs.«01_k».proof.Proof.KerBlock
public import Idealize.ShloMosaic.Lib.StableHlo.Run

@[expose] public section

set_option maxRecDepth 16384

noncomputable section

namespace Cert.KerRun

open Cert.KernelIdeal Cert.KernelIdeal.Gen Cert.KerBlock Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- A one-by-one array of zero. -/
def zero11 : FVec F S1x1 .f32 := broadcast S1x1 (Scalar.ofBits .f32 0x00000000#32)

/-- The loss accumulated up to grid point `n`. -/
def lossTo (c : Dev nD) : (n : ℕ) → n < cfg0.N → FVec F S1x1 .f32
  | 0, h => lossStep (iblk m c 0 ⟨0, h⟩) (iblk m c 1 ⟨0, h⟩) (iblk m c 2 ⟨0, h⟩) (iblk m c 3 ⟨0, h⟩) zero11
  | n + 1, h => lossStep (iblk m c 0 ⟨n + 1, h⟩) (iblk m c 1 ⟨n + 1, h⟩) (iblk m c 2 ⟨n + 1, h⟩) (iblk m c 3 ⟨n + 1, h⟩)
      (lossTo c n (Nat.lt_of_succ_lt h))

/-- The number of blocks accumulated up to grid point `n`. -/
def countTo (c : Dev nD) : (n : ℕ) → n < cfg0.N → FVec F S1x1 .f32
  | 0, h => countStep (iblk m c 0 ⟨0, h⟩) (iblk m c 1 ⟨0, h⟩) (iblk m c 2 ⟨0, h⟩) (iblk m c 3 ⟨0, h⟩) zero11
  | n + 1, h => countStep (iblk m c 0 ⟨n + 1, h⟩) (iblk m c 1 ⟨n + 1, h⟩) (iblk m c 2 ⟨n + 1, h⟩) (iblk m c 3 ⟨n + 1, h⟩)
      (countTo c n (Nat.lt_of_succ_lt h))

/-- After grid point `n` the two accumulators hold the loss and the number of blocks up to it. -/
theorem outs_eq (c : Dev nD) (n : ℕ) (h : n < cfg0.N) : outsAt0 m c n h = (lossTo m c n h, countTo m c n h) := by
  induction n with
  | zero =>
    refine (outsAt0_A m c ⟨0, h⟩ rfl).trans ?_
    rw [out_A_4, out_A_5]
    rfl
  | succ n ih =>
    have h8 : n + 1 < 8 := Nat.lt_of_lt_of_eq h N_0
    refine (outsAt0_B m c ⟨n + 1, h⟩ (by show ¬(n + 1) % 8 = 0; omega)).trans ?_
    rw [out_B_4, out_B_5]
    have e := ih (Nat.lt_of_succ_lt h)
    show (lossStep _ _ _ _ (outsAt0 m c n _).1, countStep _ _ _ _ (outsAt0 m c n _).2) = _
    rw [e]
    rfl

/-- The last grid point is the eighth. -/
theorem seven_lt : 7 < cfg0.N := Nat.lt_of_lt_of_eq (by decide : 7 < 8) N_0.symm

/-- The last grid point. -/
abbrev last : Fin cfg0.N := ⟨7, seven_lt⟩

/-- The point after which an accumulator is written back is the last. -/
theorem last_point (t : Fin cfg0.N) (h : t.val % 8 = 7) : t = last := by
  have : t.val < 8 := Nat.lt_of_lt_of_eq t.isLt N_0
  exact Fin.ext (by show t.val = 7; omega)

/-- A one-by-one array has one index. -/
theorem idx_one (i j : S1x1.Idx) : i = j := funext fun a => by
  fin_cases a <;> exact Subsingleton.elim (α := Fin 1) _ _

/-- The one index of a one-by-one array. -/
def origin : S1x1.Idx := fun a => ⟨0, by fin_cases a <;> exact Nat.one_pos⟩

/-- The array of the loss after the run. -/
theorem loss_array (c : Dev nD) : (dats m 0 c).arrAt 4 cfg0.N = lossTo m c 7 seven_lt := by
  refine (dats m 0 c).arrAt_eq_of_cover 4 (lossTo m c 7 seven_lt) (fun t ht => ?_) fun i => ?_
  · obtain rfl := last_point t ((flush0_4 t).mp ht)
    show (cfg0.win 4).cut (grid0.coords _) ((dats m 0 c).after 4 _) = _
    rw [after0_4, outs_eq]
    have hz : (fun a => win0_4.index last a * main_v0_0.ty.shape.size a) = fun _ => 0 := funext fun a => by fin_cases a <;> decide
    exact (Memref.read_access_unit_zero (Elt F) main_v0_0 hz (fun a => by rw [congrFun hz a]; simp) (lossTo m c 7 seven_lt)).symm
  · refine ⟨last, (flush0_4 last).mpr rfl, ?_⟩
    rw [show i = ((cfg0.win 4).blk last).view.emb origin from idx_one i _]
    exact View.emb_mem_set _ _

/-- The array of the number of blocks after the run. -/
theorem count_array (c : Dev nD) : (dats m 0 c).arrAt 5 cfg0.N = countTo m c 7 seven_lt := by
  refine (dats m 0 c).arrAt_eq_of_cover 5 (countTo m c 7 seven_lt) (fun t ht => ?_) fun i => ?_
  · obtain rfl := last_point t ((flush0_5 t).mp ht)
    show (cfg0.win 5).cut (grid0.coords _) ((dats m 0 c).after 5 _) = _
    rw [after0_5, outs_eq]
    have hz : (fun a => win0_5.index last a * main_v0_1.ty.shape.size a) = fun _ => 0 := funext fun a => by fin_cases a <;> decide
    exact (Memref.read_access_unit_zero (Elt F) main_v0_1 hz (fun a => by rw [congrFun hz a]; simp) (countTo m c 7 seven_lt)).symm
  · refine ⟨last, (flush0_5 last).mpr rfl, ?_⟩
    rw [show i = ((cfg0.win 5).blk last).view.emb origin from idx_one i _]
    exact View.emb_mem_set _ _

/-- The kernel's last lines: the loss over the number of blocks, zero when there is none. -/
def finish (l n : FVec F S1x1 .f32) : FVec F S_ .f32 :=
  select (cmpf .ogt (shapeCast S_ n shapeCasts_S1x1_S_) (constant S_ .f32 0x00000000#32))
    (Host.divf (shapeCast S_ l shapeCasts_S1x1_S_) (maximumf (shapeCast S_ n shapeCasts_S1x1_S_) (constant S_ .f32 0x3F800000#32)))
    (constant S_ .f32 0x00000000#32)

/-- The result after the program's last lines. -/
theorem tail_result (c : Dev nD) : Pipeline.afterTail₀ cfgs (dats m) 0 (V0 m) [hostOps1, hostOps1_1] c main_v6
    = finish (lossTo m c 7 seven_lt) (countTo m c 7 seven_lt) := by
  have h4 : Pipeline.withArrays (cfgs 0).spec c (V0 m c) (fun w => (dats m 0 c).arrAt w (cfgs 0).N) (Proc.devRef .tc main_v0_0) = lossTo m c 7 seven_lt :=
    (Pipeline.withArrays_arr spec0 winFacts0.arr_inj c (V0 m c) (fun w => (dats m 0 c).arrAt w cfg0.N) 4).trans (loss_array m c)
  have h5 : Pipeline.withArrays (cfgs 0).spec c (V0 m c) (fun w => (dats m 0 c).arrAt w (cfgs 0).N) (Proc.devRef .tc main_v0_1) = countTo m c 7 seven_lt :=
    (Pipeline.withArrays_arr spec0 winFacts0.arr_inj c (V0 m c) (fun w => (dats m 0 c).arrAt w cfg0.N) 5).trans (count_array m c)
  unfold Pipeline.afterTail₀
  rw [← h4, ← h5]
  unfold hostOps1 hostOps1_1 finish
  after_results
  rfl

/-- The run of the kernel's program: its result, the arguments unchanged. -/
theorem run : θ_run defs (onTc (τ := τ) (main (F := F))) ⟨m, fun _ => 0, ρ⟩ fun r => ∀ c : Dev nD,
      r.2.mem ((c : Thread nD τ).loc main_v6) = finish (lossTo m c 7 seven_lt) (countTo m c 7 seven_lt)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v6 (by decide)).trans (tail_result m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩)
    (run_main m ρ)

end Cert.KerRun
-- ==== Proof.KerFold.lean ====
/- The kernel's eight grid points together: its two accumulators hold the loss and the number of the counted blocks, and its
   result is their quotient. -/
module

public import proofs.«01_k».proof.Proof.KerPoint
public import proofs.«01_k».proof.Proof.KerRun

@[expose] public section

set_option maxRecDepth 16384

noncomputable section

namespace Cert.KerFold

open Cert.Spec Cert.KerRead Cert.KerRun
open Cert.KernelIdeal Cert.KernelIdeal.Gen Cert.KerBlock Idealize.ShloMosaic Idealize.ShloMosaic.TcCoe Idealize.SL.Sem Idealize.ShloMosaic.ValueIdx

variable (m : (ℓ : Loc nD τ sig) → Buf (Elt Ideal) ℓ) (c : Dev nD)

/-- The logits the kernel is given. -/
abbrev argX : (⟨5, ![4, 12, 64, 64, 64]⟩ : Shape).Idx → EReal := m ((c : Thread nD τ).loc main_arg0)
/-- The labels the kernel is given. -/
abbrev argL : (⟨5, ![4, 1, 64, 64, 64]⟩ : Shape).Idx → BitVec 32 := m ((c : Thread nD τ).loc main_arg1)
/-- The weights the kernel is given. -/
abbrev argW : (⟨5, ![4, 1, 64, 64, 64]⟩ : Shape).Idx → BitVec 32 := m ((c : Thread nD τ).loc main_arg2)
/-- The sketch the kernel is given. -/
abbrev argS : (⟨5, ![4, 2, 64, 64, 64]⟩ : Shape).Idx → EReal := m ((c : Thread nD τ).loc main_arg3)

/-- A small number's word is the number. -/
theorem word_val (n k : ℕ) (h : n = k) (hk : k < 64) : (BitVec.ofNat 32 n).toNat = k := by
  subst h
  rw [BitVec.toNat_ofNat]
  exact Nat.mod_eq_of_lt (by omega)

/-- A grid point reads the half and the batch entry its coordinates name. -/
theorem part (t : Fin cfg0.N) (b : Fin 4) (e : Fin 2) (hb : (grid0.coords t 0).val = b.val) (he : (grid0.coords t 1).val = e.val) :
    Part (iblk m c 0 t) (iblk m c 1 t) (iblk m c 2 t) (iblk m c 3 t) (argX m c) (argL m c) (argW m c) (argS m c) b e where
  logits k h w d := congrArg (argX m c) (funext fun a => Fin.ext ((win0_0.rect_emb_val t (ix5 0 k h w d) a).trans (by
    match a with
    | ⟨0, _⟩ => show (BitVec.ofNat 32 (grid0.coords t 0).val).toNat * 1 + 0 = b.val; rw [word_val _ _ hb (by omega)]; omega
    | ⟨1, _⟩ => show 0 * 12 + k.val = k.val; omega
    | ⟨2, _⟩ => show (BitVec.ofNat 32 (grid0.coords t 1).val).toNat * 32 + h.val = 32 * e.val + h.val; rw [word_val _ _ he (by omega)]; omega
    | ⟨3, _⟩ => show 0 * 64 + w.val = w.val; omega
    | ⟨4, _⟩ => show 0 * 64 + d.val = d.val; omega)))
  labels h w d := congrArg (argL m c) (funext fun a => Fin.ext ((win0_1.rect_emb_val t (ix5 0 0 h w d) a).trans (by
    match a with
    | ⟨0, _⟩ => show (BitVec.ofNat 32 (grid0.coords t 0).val).toNat * 1 + 0 = b.val; rw [word_val _ _ hb (by omega)]; omega
    | ⟨1, _⟩ => show 0 * 1 + 0 = 0; omega
    | ⟨2, _⟩ => show (BitVec.ofNat 32 (grid0.coords t 1).val).toNat * 32 + h.val = 32 * e.val + h.val; rw [word_val _ _ he (by omega)]; omega
    | ⟨3, _⟩ => show 0 * 64 + w.val = w.val; omega
    | ⟨4, _⟩ => show 0 * 64 + d.val = d.val; omega)))
  weights h w d := congrArg (argW m c) (funext fun a => Fin.ext ((win0_2.rect_emb_val t (ix5 0 0 h w d) a).trans (by
    match a with
    | ⟨0, _⟩ => show (BitVec.ofNat 32 (grid0.coords t 0).val).toNat * 1 + 0 = b.val; rw [word_val _ _ hb (by omega)]; omega
    | ⟨1, _⟩ => show 0 * 1 + 0 = 0; omega
    | ⟨2, _⟩ => show (BitVec.ofNat 32 (grid0.coords t 1).val).toNat * 32 + h.val = 32 * e.val + h.val; rw [word_val _ _ he (by omega)]; omega
    | ⟨3, _⟩ => show 0 * 64 + w.val = w.val; omega
    | ⟨4, _⟩ => show 0 * 64 + d.val = d.val; omega)))
  sketch k h w d := congrArg (argS m c) (funext fun a => Fin.ext ((win0_3.rect_emb_val t (ix5 0 k h w d) a).trans (by
    match a with
    | ⟨0, _⟩ => show (BitVec.ofNat 32 (grid0.coords t 0).val).toNat * 1 + 0 = b.val; rw [word_val _ _ hb (by omega)]; omega
    | ⟨1, _⟩ => show 0 * 2 + k.val = k.val; omega
    | ⟨2, _⟩ => show (BitVec.ofNat 32 (grid0.coords t 1).val).toNat * 32 + h.val = 32 * e.val + h.val; rw [word_val _ _ he (by omega)]; omega
    | ⟨3, _⟩ => show 0 * 64 + w.val = w.val; omega
    | ⟨4, _⟩ => show 0 * 64 + d.val = d.val; omega)))

/-- The eight points' terms from zero on, two to a batch entry, are a sum over the batch entries and all rows of blocks. -/
theorem sum_points (f : Fin 4 → Fin 16 → EReal) :
    0 + ∑ g, f 0 (rowBlock 0 g) + ∑ g, f 0 (rowBlock 1 g) + ∑ g, f 1 (rowBlock 0 g) + ∑ g, f 1 (rowBlock 1 g)
      + ∑ g, f 2 (rowBlock 0 g) + ∑ g, f 2 (rowBlock 1 g) + ∑ g, f 3 (rowBlock 0 g) + ∑ g, f 3 (rowBlock 1 g) = ∑ b, ∑ h, f b h := by
  have e : ∀ b, ∑ h, f b h = ∑ g, f b (rowBlock 0 g) + ∑ g, f b (rowBlock 1 g) := fun b => by
    rw [sum_split 2 8 rfl, Fin.sum_univ_two]
    congr 1 <;> exact Finset.sum_congr rfl fun g _ => congrArg (f b) (Fin.ext (by simp [rowBlock]))
  rw [Fin.sum_univ_four, e, e, e, e, zero_add]
  simp only [add_assoc]

/-- The one-by-one zero array at an index. -/
theorem zero11_apply (j : S1x1.Idx) : zero11 (F := Ideal) j = (0 : EReal) := by
  unfold zero11
  rw [broadcast_apply, scalar_zero]

variable (hx : ∀ i, argX m c i = ((argX m c i).toReal : EReal)) (hlab : ∀ i, 0 ≤ (argL m c i).toInt ∧ (argL m c i).toInt < 12)

include hx hlab in
/-- The loss after the last grid point. -/
theorem loss_total (j : S1x1.Idx) : lossTo m c 7 seven_lt j = lossSum (argX m c) (argL m c) (argW m c) (argS m c) := by
  simp only [lossTo]
  rw [(part m c _ 3 1 rfl rfl).loss_eq hx hlab, (part m c _ 3 0 rfl rfl).loss_eq hx hlab, (part m c _ 2 1 rfl rfl).loss_eq hx hlab,
    (part m c _ 2 0 rfl rfl).loss_eq hx hlab, (part m c _ 1 1 rfl rfl).loss_eq hx hlab, (part m c _ 1 0 rfl rfl).loss_eq hx hlab,
    (part m c _ 0 1 rfl rfl).loss_eq hx hlab, (part m c _ 0 0 rfl rfl).loss_eq hx hlab, zero11_apply]
  exact sum_points (fun b h => ∑ w : Fin 16, ∑ d : Fin 16, kl (count (argL m c) (argW m c) b h w d) (pred (argX m c) (argW m c) b h w d) * weight (argW m c) (argS m c) b h w d)

include hlab in
/-- The number of blocks after the last grid point. -/
theorem count_total (j : S1x1.Idx) : countTo m c 7 seven_lt j = countSum (argW m c) (argS m c) := by
  simp only [countTo]
  rw [(part m c _ 3 1 rfl rfl).number_eq hlab, (part m c _ 3 0 rfl rfl).number_eq hlab, (part m c _ 2 1 rfl rfl).number_eq hlab,
    (part m c _ 2 0 rfl rfl).number_eq hlab, (part m c _ 1 1 rfl rfl).number_eq hlab, (part m c _ 1 0 rfl rfl).number_eq hlab,
    (part m c _ 0 1 rfl rfl).number_eq hlab, (part m c _ 0 0 rfl rfl).number_eq hlab, zero11_apply]
  exact sum_points (fun b h => ∑ w : Fin 16, ∑ d : Fin 16, weight (argW m c) (argS m c) b h w d)

/-- A one-by-one array as a scalar. -/
theorem scalar_apply (o : FVec Ideal S1x1 .f32) (i : S_.Idx) : shapeCast S_ o shapeCasts_S1x1_S_ i = o origin := by
  show o _ = o origin
  exact congrArg o (idx_one _ _)

include hx hlab in
/-- The kernel's result is the mean loss over the counted blocks. -/
theorem finish_eq : finish (lossTo m c 7 seven_lt) (countTo m c 7 seven_lt)
    = fun _ => meanOf (lossSum (argX m c) (argL m c) (argW m c) (argS m c)) (countSum (argW m c) (argS m c)) := by
  funext i
  unfold finish
  rw [select_apply, cmpf_apply, hostDivf_apply, maximumf_apply, scalar_apply, scalar_apply, loss_total m c hx hlab, count_total m c hlab,
    constant_apply, constant_apply, Ideal.ofBits_zero_f32, Ideal.ofBits_one_f32]
  rfl

end Cert.KerFold
-- ==== Proof.RefRead.lean ====
/- The reference read at an index, stage by stage, down to the mean over the counted blocks. -/
module

public import proofs.«01_k».proof.Proof.RefRun
public import proofs.«01_k».proof.Proof.Spec
public import Idealize.ShloMosaic.Lib.WordSum
public import Idealize.ShloMosaic.Lib.Pipeline.Value
public import Idealize.ShloMosaic.Lib.ValueIdx
public import Idealize.ShloMosaic.Lib.IdealHost
public import Idealize.ShloMosaic.Lib.Pointwise.Reshape

@[expose] public section

noncomputable section

namespace Cert.RefRead

open Idealize.ShloMosaic hiding ix0 ix1 ix2 ix3 ix4 ix5
open Cert.Spec
open Cert.ReferenceIdeal Cert.ReferenceIdeal.Gen Cert.RefRun Idealize.ShloMosaic.TcCoe Idealize.SL.Sem Idealize.ShloMosaic.ValueIdx

/-- An index of rank eight by its coordinates. -/
abbrev ix8 {n0 n1 n2 n3 n4 n5 n6 n7 : ℕ} (a : Fin n0) (b : Fin n1) (c : Fin n2) (d : Fin n3) (e : Fin n4) (f : Fin n5) (g : Fin n6) (h : Fin n7) :
    (⟨8, ![n0, n1, n2, n3, n4, n5, n6, n7]⟩ : Shape).Idx := fun x => match x with
  | ⟨0, _⟩ => a | ⟨1, _⟩ => b | ⟨2, _⟩ => c | ⟨3, _⟩ => d | ⟨4, _⟩ => e | ⟨5, _⟩ => f | ⟨6, _⟩ => g | ⟨7, _⟩ => h

/-- A cut word volume read at a block and a voxel. -/
theorem blocks_apply (y : IVec S4x1x64x64x64 32) (b : Fin 4) (h w d : Fin 16) (i j k : Fin 4) :
    blocks y (ix2 (blockNo b h w d) (voxelNo i j k)) = y (ix5 b 0 (at4 h i) (at4 w j) (at4 d k)) := by
  unfold blocks
  rw [shapeCast_apply _ shapeCasts_S16384x1x64_S16384x64 _ (ix3 (blockNo b h w d) (0 : Fin 1) (voxelNo i j k)) (by
    rw [Shape.rowMajor_val_three, Shape.rowMajor_val_two]
    show ((blockNo b h w d).val * 1 + 0) * 64 + (voxelNo i j k).val = (blockNo b h w d).val * 64 + (voxelNo i j k).val
    omega)]
  rw [shapeCast_apply _ shapeCasts_S4x16x16x16x1x4x4x4_S16384x1x64 _ (ix8 b h w d (0 : Fin 1) i j k) (by
    rw [Shape.rowMajor_val_three, rowMajor_val8 _ 262144 16384 1024 64 64 16 4 rfl rfl rfl rfl rfl rfl rfl]
    show b.val * 262144 + h.val * 16384 + w.val * 1024 + d.val * 64 + 0 * 64 + i.val * 16 + j.val * 4 + k.val = ((((b.val * 16 + h.val) * 16 + w.val) * 16 + d.val) * 1 + 0) * 64 + ((i.val * 4 + j.val) * 4 + k.val)
    omega)]
  rw [transpose_apply [0, 2, 4, 6, 1, 3, 5, 7] _ transposes_S4x1x16x4x16x4x16x4_S4x16x16x16x1x4x4x4_0_2_4_6_1_3_5_7 _ (ix8 b (0 : Fin 1) h i w j d k)
    (fun a => by match a with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
  rw [shapeCast_apply _ shapeCasts_S4x1x64x64x64_S4x1x16x4x16x4x16x4 _ (ix5 b (0 : Fin 1) (at4 h i) (at4 w j) (at4 d k)) (by
    rw [Shape.rowMajor_val_five, rowMajor_val8 _ 262144 262144 16384 4096 256 64 4 rfl rfl rfl rfl rfl rfl rfl]
    show (((b.val * 1 + 0) * 64 + (4 * h.val + i.val)) * 64 + (4 * w.val + j.val)) * 64 + (4 * d.val + k.val) = b.val * 262144 + 0 * 262144 + h.val * 16384 + i.val * 4096 + w.val * 256 + j.val * 64 + d.val * 4 + k.val
    omega)]

/-- A cut volume of twelve classes read at a block, a class and a voxel. -/
theorem classBlocks_apply (y : FVec Ideal S4x12x64x64x64 .f32) (b : Fin 4) (h w d : Fin 16) (c : Fin 12) (i j k : Fin 4) :
    classBlocks y (ix3 (blockNo b h w d) c (voxelNo i j k)) = y (ix5 b c (at4 h i) (at4 w j) (at4 d k)) := by
  unfold classBlocks
  rw [shapeCast_apply _ shapeCasts_S4x16x16x16x12x4x4x4_S16384x12x64 _ (ix8 b h w d c i j k) (by
    rw [Shape.rowMajor_val_three, rowMajor_val8 _ 3145728 196608 12288 768 64 16 4 rfl rfl rfl rfl rfl rfl rfl]
    show b.val * 3145728 + h.val * 196608 + w.val * 12288 + d.val * 768 + c.val * 64 + i.val * 16 + j.val * 4 + k.val = ((((b.val * 16 + h.val) * 16 + w.val) * 16 + d.val) * 12 + c.val) * 64 + ((i.val * 4 + j.val) * 4 + k.val)
    omega)]
  rw [transpose_apply [0, 2, 4, 6, 1, 3, 5, 7] _ transposes_S4x12x16x4x16x4x16x4_S4x16x16x16x12x4x4x4_0_2_4_6_1_3_5_7 _ (ix8 b c h i w j d k)
    (fun a => by match a with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
  rw [shapeCast_apply _ shapeCasts_S4x12x64x64x64_S4x12x16x4x16x4x16x4 _ (ix5 b c (at4 h i) (at4 w j) (at4 d k)) (by
    rw [Shape.rowMajor_val_five, rowMajor_val8 _ 3145728 262144 16384 4096 256 64 4 rfl rfl rfl rfl rfl rfl rfl]
    show (((b.val * 12 + c.val) * 64 + (4 * h.val + i.val)) * 64 + (4 * w.val + j.val)) * 64 + (4 * d.val + k.val) = b.val * 3145728 + c.val * 262144 + h.val * 16384 + i.val * 4096 + w.val * 256 + j.val * 64 + d.val * 4 + k.val
    omega)]

/-! ### Elementwise operations at an index -/

/-- An exponential at an index. -/
theorem exp_apply {S : Shape} (x : FVec Ideal S .f32) (i : S.Idx) : Host.exp x i = Ideal.exp (x i) := rfl
/-- A logarithm at an index. -/
theorem log_apply {S : Shape} (x : FVec Ideal S .f32) (i : S.Idx) : Host.log x i = Ideal.log (x i) := rfl
/-- A comparison of words at an index. -/
theorem cmpi_apply {S : Shape} (p : CmpIPredicate) (x y : IVec S 32) (i : S.Idx) : cmpi p x y i = IntOp.cmpi p (x i) (y i) := rfl
/-- A bit as a number at an index. -/
theorem uitofp_apply {S : Shape} (x : IVec S 1) (i : S.Idx) : (uitofp .f32 x : FVec Ideal S .f32) i = (FloatOps.uitofp .f32 (x i) : Ideal .f32) := rfl
/-- A conjunction at an index. -/
theorem andi_apply {S : Shape} (x y : IVec S 1) (i : S.Idx) : andi x y i = IntOp.andi (x i) (y i) := rfl
/-- A constant number at an index. -/
theorem const_apply {S : Shape} (v : BitVec 32) (i : S.Idx) : (constant S .f32 v : FVec Ideal S .f32) i = Ideal.ofBits .f32 v := rfl
/-- A constant word at an index. -/
theorem constI_apply {S : Shape} (v : BitVec 32) (i : S.Idx) : constantI S 32 v i = v := rfl

/-! ### The softmax -/

/-- The greatest of twelve reals, from minus infinity on, is a real. -/
theorem fold_max_real (r : Fin 12 → EReal) (hr : ∀ k, r k = ((r k).toReal : EReal)) :
    ∃ μ : ℝ, (Finset.univ : Finset (Fin 12)).fold max ⊥ r = (μ : EReal) := by
  obtain ⟨k, -, hk⟩ := Finset.exists_mem_eq_sup (Finset.univ : Finset (Fin 12)) ⟨0, Finset.mem_univ _⟩ r
  exact ⟨(r k).toReal, (show Finset.univ.sup r = _ from hk).trans (hr k)⟩

/-- A voxel's value laid along the twelve classes is that value at every class. -/
theorem along_classes {α : Type} (y : S4x64x64x64.Idx → α) (b : Fin 4) (c : Fin 12) (h w d : Fin 64) :
    broadcastInDim S4x12x64x64x64 ![0, 1, 2, 3, 4] bcast_S4x1x64x64x64_S4x12x64x64x64_0_1_2_3_4
      (broadcastInDim S4x1x64x64x64 ![0, 2, 3, 4] bcast_S4x64x64x64_S4x1x64x64x64_0_2_3_4 y) (ix5 b c h w d) = y (ix4 b h w d) := by
  rw [broadcastInDim_apply ![0, 1, 2, 3, 4] bcast_S4x1x64x64x64_S4x12x64x64x64_0_1_2_3_4 _ _ (ix5 b 0 h w d)
    (fun a => by match a with | ⟨0, _⟩ => rfl | ⟨1, _⟩ => rfl | ⟨2, _⟩ => rfl | ⟨3, _⟩ => rfl | ⟨4, _⟩ => rfl)]
  exact broadcastInDim_apply ![0, 2, 3, 4] bcast_S4x64x64x64_S4x1x64x64x64_0_2_3_4 y (ix5 b (0 : Fin 1) h w d) (ix4 b h w d)
    (fun a => by match a with | ⟨0, _⟩ => rfl | ⟨1, _⟩ => rfl | ⟨2, _⟩ => rfl | ⟨3, _⟩ => rfl)

/-- The exponentials of a voxel, every logit less one real number. -/
theorem shifted_apply (x : FVec Ideal S4x12x64x64x64 .f32) (b : Fin 4) (h w d : Fin 64) (hx : ∀ c, logits x b h w d c = ((logits x b h w d c).toReal : EReal)) :
    ∃ μ : ℝ, ∀ c, shifted x (ix5 b c h w d) = Ideal.exp (logits x b h w d c - (μ : EReal)) := by
  obtain ⟨μ, hμ⟩ := fold_max_real _ hx
  refine ⟨μ, fun c => ?_⟩
  unfold shifted
  rw [exp_apply, subf_apply, along_classes, maximumf_apply, broadcastInDim_scalar_apply, const_apply]
  have hbot : (Ideal.ofBits .f32 0xFF800000#32 : EReal) = ⊥ := by simp [Ideal.ofBits, Ideal.ieee]
  have hred : Host.reduce (FloatOps.maximumf (F := Ideal) (φ := .f32)) x (constant S_ .f32 0xFF800000#32) reducesTo_S4x12x64x64x64_S4x64x64x64_d1 h_S_ (ix4 b h w d) = (μ : EReal) := by
    rw [Host.reduce_eq_fold_single _ _ _ _ (by decide), ← hμ]
    show Finset.fold max (Ideal.ofBits .f32 0xFF800000#32) _ _ = _
    rw [hbot]
    exact congrArg (fun f => Finset.fold max ⊥ f Finset.univ) (funext fun k => congrArg x (funext fun a => Fin.ext (by
      match a with | ⟨0, _⟩ => rfl | ⟨1, _⟩ => rfl | ⟨2, _⟩ => rfl | ⟨3, _⟩ => rfl | ⟨4, _⟩ => rfl)))
  rw [hred, hbot, max_eq_right bot_le]
  rfl

/-- The softmax of a voxel, masked, is the shared one. -/
theorem softmax_apply (x : FVec Ideal S4x12x64x64x64 .f32) (b : Fin 4) (h w d : Fin 64) (hx : ∀ c, logits x b h w d c = ((logits x b h w d c).toReal : EReal))
    (o : Prop) [Decidable o] (c : Fin 12) :
    softmax x (ix5 b c h w d) * (if o then 1 else 0 : EReal) = soft (logits x b h w d) o c := by
  obtain ⟨μ, hμ⟩ := shifted_apply x b h w d hx
  rw [← soft_shift _ hx μ o c]
  congr 1
  unfold softmax
  rw [hostDivf_apply, along_classes, hμ]
  congr 1
  rw [hostReduceAdd_apply, Ideal.hostReduceAdd_single _ (by decide)]
  refine congrArg₂ (· + ·) Ideal.ofBits_zero_f32 (Finset.sum_congr rfl fun k _ => (Eq.trans ?_ (hμ k)))
  exact congrArg (shifted x) (funext fun a => Fin.ext (by
      match a with | ⟨0, _⟩ => rfl | ⟨1, _⟩ => rfl | ⟨2, _⟩ => rfl | ⟨3, _⟩ => rfl | ⟨4, _⟩ => rfl))

/-! ### The class totals of a block -/

/-- The mask of counted voxels at an index. -/
theorem weighted_apply (lw : IVec S16384x64 32) (i : S16384x64.Idx) : (weighted lw : FVec Ideal S16384x64 .f32) i = (if On (lw i) then 1 else 0 : EReal) := by
  unfold weighted
  rw [uitofp_apply, cmpi_apply, broadcastInDim_scalar_apply, constI_apply, cmpi_sgt_zero]
  exact uitofp_decide _

/-- The predicted totals of a block. -/
theorem predicted_apply (x : FVec Ideal S4x12x64x64x64 .f32) (lw : IVec S4x1x64x64x64 32) (hx : ∀ i, x i = ((x i).toReal : EReal))
    (b : Fin 4) (h w d : Fin 16) (c : Fin 12) :
    predicted (classBlocks (softmax x)) (weighted (blocks lw)) (ix2 (blockNo b h w d) c) = pred x lw b h w d c := by
  unfold predicted
  rw [hostReduceAdd_apply, Ideal.hostReduceAdd_single _ (by decide)]
  refine (congrArg₂ (· + ·) Ideal.ofBits_zero_f32 rfl).trans ((zero_add _).trans ((sum_voxels _).trans ?_))
  refine Finset.sum_congr rfl fun i _ => Finset.sum_congr rfl fun j _ => Finset.sum_congr rfl fun k _ => ?_
  rw [show Shape.Reduces.lift (s := S16384x12x64) (t := S16384x12) (a := 2) (by decide) (ix2 (blockNo b h w d) c) (voxelNo i j k)
    = ix3 (blockNo b h w d) c (voxelNo i j k) from funext fun a => Fin.ext (by match a with | ⟨0, _⟩ => rfl | ⟨1, _⟩ => rfl | ⟨2, _⟩ => rfl)]
  rw [mulf_apply, classBlocks_apply]
  rw [broadcastInDim_apply ![0, 1, 2] bcast_S16384x1x64_S16384x12x64_0_1_2 _ _ (ix3 (blockNo b h w d) 0 (voxelNo i j k))
    (fun a => by match a with | ⟨0, _⟩ => rfl | ⟨1, _⟩ => rfl | ⟨2, _⟩ => rfl)]
  rw [broadcastInDim_apply ![0, 2] bcast_S16384x64_S16384x1x64_0_2 _ _ (ix2 (blockNo b h w d) (voxelNo i j k))
    (fun a => by match a with | ⟨0, _⟩ => rfl | ⟨1, _⟩ => rfl)]
  rw [weighted_apply, blocks_apply]
  exact softmax_apply x b _ _ _ (fun c => hx _) _ c

/-- The label counts of a block. -/
theorem counted_apply (lab lw : IVec S4x1x64x64x64 32) (b : Fin 4) (h w d : Fin 16) (c : Fin 12) :
    (counted (blocks lab) (weighted (blocks lw)) : FVec Ideal S16384x12 .f32) (ix2 (blockNo b h w d) c) = count lab lw b h w d c := by
  unfold counted
  rw [hostReduceAdd_apply, Ideal.hostReduceAdd_single _ (by decide)]
  refine (congrArg₂ (· + ·) Ideal.ofBits_zero_f32 rfl).trans ((zero_add _).trans ((sum_voxels _).trans ?_))
  refine Finset.sum_congr rfl fun i _ => Finset.sum_congr rfl fun j _ => Finset.sum_congr rfl fun k _ => ?_
  rw [show Shape.Reduces.lift (s := S16384x64x12) (t := S16384x12) (a := 1) (by decide) (ix2 (blockNo b h w d) c) (voxelNo i j k)
    = ix3 (blockNo b h w d) (voxelNo i j k) c from funext fun a => Fin.ext (by match a with | ⟨0, _⟩ => rfl | ⟨1, _⟩ => rfl | ⟨2, _⟩ => rfl)]
  rw [mulf_apply]
  rw [broadcastInDim_apply ![0, 1, 2] bcast_S16384x64x1_S16384x64x12_0_1_2 _ _ (ix3 (blockNo b h w d) (voxelNo i j k) 0)
    (fun a => by match a with | ⟨0, _⟩ => rfl | ⟨1, _⟩ => rfl | ⟨2, _⟩ => rfl)]
  rw [broadcastInDim_apply ![0, 1] bcast_S16384x64_S16384x64x1_0_1 _ _ (ix2 (blockNo b h w d) (voxelNo i j k))
    (fun a => by match a with | ⟨0, _⟩ => rfl | ⟨1, _⟩ => rfl)]
  rw [weighted_apply, blocks_apply]
  unfold oneHot
  rw [uitofp_apply, cmpi_apply]
  rw [broadcastInDim_apply ![0, 1, 2] bcast_S16384x64x1_S16384x64x12_0_1_2 _ _ (ix3 (blockNo b h w d) (voxelNo i j k) 0)
    (fun a => by match a with | ⟨0, _⟩ => rfl | ⟨1, _⟩ => rfl | ⟨2, _⟩ => rfl)]
  rw [broadcastInDim_apply ![0, 1] bcast_S16384x64_S16384x64x1_0_1 _ _ (ix2 (blockNo b h w d) (voxelNo i j k))
    (fun a => by match a with | ⟨0, _⟩ => rfl | ⟨1, _⟩ => rfl)]
  rw [broadcastInDim_apply ![0, 1, 2] bcast_S1x1x12_S16384x64x12_0_1_2 _ _ (ix3 0 0 c)
    (fun a => by match a with | ⟨0, _⟩ => rfl | ⟨1, _⟩ => rfl | ⟨2, _⟩ => rfl)]
  rw [blocks_apply, iotaInDim_apply, cmpi_eq, uitofp_decide]
  show (if lab _ = BitVec.ofNat 32 c.val then 1 else 0 : EReal) * _ = isClass _ _ _
  unfold isClass
  by_cases h1 : On (lw (ix5 b 0 (at4 h i) (at4 w j) (at4 d k))) <;>
    by_cases h2 : lab (ix5 b 0 (at4 h i) (at4 w j) (at4 d k)) = BitVec.ofNat 32 c.val <;> simp only [h1, h2, if_true, if_false, and_true, true_and, and_false, false_and, mul_one, mul_zero]

/-! ### The divergence of a block -/

/-- A share is the class total over the sum of the totals, the sum held above a tiny constant. -/
theorem shares_apply (v : FVec Ideal S16384x12 .f32) (n : Fin 16384) (c : Fin 12) :
    shares v (ix2 n c) = Ideal.div (v (ix2 n c)) (max (∑ k, v (ix2 n k)) tiny) := by
  unfold shares
  rw [hostDivf_apply]
  rw [broadcastInDim_apply ![0, 1] bcast_S16384x1_S16384x12_0_1 _ _ (ix2 n 0)
    (fun a => by match a with | ⟨0, _⟩ => rfl | ⟨1, _⟩ => rfl)]
  rw [maximumf_apply, broadcastInDim_scalar_apply, const_apply]
  rw [broadcastInDim_apply ![0] bcast_S16384_S16384x1_0 _ _ (ix1 n) (fun a => by match a with | ⟨0, _⟩ => rfl)]
  rw [hostReduceAdd_apply, Ideal.hostReduceAdd_single _ (by decide)]
  refine congrArg (fun z => Ideal.div _ (max z _)) ((congrArg₂ (· + ·) Ideal.ofBits_zero_f32 (Finset.sum_congr rfl fun k _ => ?_)).trans (zero_add _))
  exact congrArg v (funext fun a => Fin.ext (by match a with | ⟨0, _⟩ => rfl | ⟨1, _⟩ => rfl))

/-- The mask of positive shares at an index. -/
theorem positive_apply (v : FVec Ideal S16384x12 .f32) (i : S16384x12.Idx) : positive v i = posBit (v i) := by
  unfold positive
  rw [cmpf_apply, broadcastInDim_scalar_apply, const_apply, Ideal.ofBits_zero_f32]
  rfl

/-- The logarithm of a share at an index. -/
theorem safeLog_apply (v : FVec Ideal S16384x12 .f32) (i : S16384x12.Idx) : safeLog v i = lg (v i) := by
  unfold safeLog
  rw [log_apply, select_apply, positive_apply, broadcastInDim_scalar_apply, id_eq, const_apply, Ideal.ofBits_one_f32]
  rfl

/-- One class's part of the divergence at an index. -/
theorem classPart_apply (t p : FVec Ideal S16384x12 .f32) (n : Fin 16384) (c : Fin 12) :
    select (positive t) (mulf t (subf (safeLog t) (safeLog p)))
      (broadcastInDim S16384x12 ![] bcast_S_S16384x12 (id (constant S_ .f32 0x00000000#32))) (ix2 n c) = term (t (ix2 n c)) (p (ix2 n c)) := by
  rw [select_apply, positive_apply, mulf_apply, subf_apply, safeLog_apply, safeLog_apply, broadcastInDim_scalar_apply, id_eq, const_apply, Ideal.ofBits_zero_f32]
  rfl

/-- The divergence of a block is the sum of its classes' parts. -/
theorem divergence_apply (t p : FVec Ideal S16384x12 .f32) (n : Fin 16384) :
    divergence t p (ix1 n) = ∑ c, term (t (ix2 n c)) (p (ix2 n c)) := by
  unfold divergence
  rw [hostReduceAdd_apply, Ideal.hostReduceAdd_single _ (by decide)]
  refine (congrArg₂ (· + ·) Ideal.ofBits_zero_f32 (Finset.sum_congr rfl fun k _ => ?_)).trans (zero_add _)
  rw [show Shape.Reduces.lift (s := S16384x12) (t := S16384) (a := 1) (by decide) (ix1 n) k = ix2 n k
    from funext fun a => Fin.ext (by match a with | ⟨0, _⟩ => rfl | ⟨1, _⟩ => rfl)]
  exact classPart_apply t p n k

end Cert.RefRead
-- ==== Proof.RefChosen.lean ====
/- Which blocks the reference counts, and the reference's result as the mean over them. -/
module

public import proofs.«01_k».proof.Proof.RefRead
public import proofs.«01_k».proof.Proof.Spec
public import Idealize.ShloMosaic.Lib.WordSum
public import Idealize.ShloMosaic.Lib.Pipeline.Value
public import Idealize.ShloMosaic.Lib.ValueIdx
public import Idealize.ShloMosaic.Lib.ValueIdxRank1
public import Idealize.ShloMosaic.Lib.IdealHost
public import Idealize.ShloMosaic.Lib.Pointwise.Reshape

@[expose] public section

noncomputable section

namespace Cert.RefRead

open Idealize.ShloMosaic hiding ix0 ix1 ix2 ix3 ix4 ix5
open Cert.Spec
open Cert.ReferenceIdeal Cert.ReferenceIdeal.Gen Cert.RefRun Idealize.ShloMosaic.TcCoe Idealize.SL.Sem Idealize.ShloMosaic.ValueIdx

/-- The pairs an arg-reduction over one axis folds over, up to order: one for each coordinate of that axis. -/
theorem fiber_perm {s t : Shape} {a : Fin s.rank} {α β : Type} (h' : s.ReducesTo [a] t) (h : s.Reduces [a] t) (x : s.Idx → α) (y : s.Idx → β) (j : t.Idx) :
    (Host.argReduceFiber x y h' j).Perm ((List.finRange (s.size a)).map fun k => (x (h.lift j k), y (h.lift j k))) := by
  unfold Host.argReduceFiber
  have e : ((List.finRange (s.size a)).map fun k => (x (h.lift j k), y (h.lift j k)))
      = (((List.finRange (s.size a)).map fun k => s.rowMajor (h.lift j k)).map fun n => (x (s.rowMajor.symm n), y (s.rowMajor.symm n))) := by
    rw [List.map_map]
    refine List.map_congr_left fun k _ => ?_
    simp only [Function.comp_apply, Equiv.symm_apply_apply]
  rw [e]
  refine List.Perm.map _ ((List.perm_ext_iff_of_nodup ((List.nodup_finRange _).filter _) ?_).2 fun n => ?_)
  · exact (List.nodup_finRange _).map fun k k' e => h.lift_injective j (s.rowMajor.injective e)
  · simp only [List.mem_filter, List.mem_finRange, true_and, decide_eq_true_eq, List.mem_map]
    rw [Shape.ReducesTo.drop_eq_drop h' h]
    constructor
    · intro e
      exact ⟨s.rowMajor.symm n a, by rw [← e, h.lift_drop, Equiv.apply_symm_apply]⟩
    · rintro ⟨k, rfl⟩
      rw [Equiv.symm_apply_apply, h.drop_lift]

/-- The reducer folded over a first and a second channel, in either order, picks the second only where it is the larger. -/
theorem fold_pair (p q : EReal) (l : List (Ideal .f32 × BitVec 32)) (hl : l.Perm [(p, 0#32), (q, 1#32)]) :
    (l.foldl (reducer_argmax_f32_i32 (F := Ideal)) ((⊥ : EReal), 0#32)).2 = if p < q then 1#32 else 0#32 := by
  have hr : ∀ (a b : EReal) (i j : BitVec 32), reducer_argmax_f32_i32 (F := Ideal) (a, i) (b, j)
      = (if b < a then a else b, if b < a ∨ (a = b ∧ i.slt j = true) then i else j) := fun a b i j => by
    show (Scalar.select (IntOp.ori (BitVec.ofBool (decide (b < a))) (BitVec.ofBool (decide (a ≠ a)))) a b,
      Scalar.select (IntOp.ori (IntOp.ori (BitVec.ofBool (decide (b < a))) (BitVec.ofBool (decide (a ≠ a))))
        (IntOp.andi (BitVec.ofBool (decide (a = b))) (BitVec.ofBool (i.slt j)))) i j) = _
    by_cases h1 : b < a <;> by_cases h2 : a = b <;> cases h3 : i.slt j <;> simp [h1, h2, h3, IntOp.ori, IntOp.andi, Scalar.select]
  have h00 : (0#32).slt 0#32 = false := by decide
  have h01 : (0#32).slt 1#32 = true := by decide
  have h10 : (1#32).slt 0#32 = false := by decide
  rcases List.perm_pair.1 hl with rfl | rfl
  · simp only [List.foldl_cons, List.foldl_nil, hr, not_lt_bot, if_false, h00, h01, false_or, and_true, and_false, Bool.false_eq_true]
    rcases lt_trichotomy p q with h | h | h
    · rw [if_pos h, if_neg (fun h' => h'.elim (fun h2 => lt_asymm h h2) (fun h2 => h.ne h2))]
    · rw [if_neg (fun h' : p < q => h'.ne h), if_pos (Or.inr h)]
    · rw [if_neg (fun h' : p < q => lt_asymm h h'), if_pos (Or.inl h)]
  · simp only [List.foldl_cons, List.foldl_nil, hr, not_lt_bot, if_false, h01, h10, false_or, and_true, and_false, or_false, Bool.false_eq_true]
    rcases eq_or_ne ⊥ q with rfl | hq
    · rw [if_pos rfl, if_neg (not_lt_bot)]; split <;> rfl
    · rw [if_neg hq]
      simp only [h10, Bool.false_eq_true, and_false, or_false]

/-- A list over two numbers. -/
theorem map_two {α : Type} (f : Fin 2 → α) : (List.finRange 2).map f = [f 0, f 1] := rfl

/-- The second result of an arg-reduction whose fiber is a first and a second channel. -/
theorem argReduce_pair {s t u : Shape} {a : Fin s.rank} (h' : s.ReducesTo [a] t) (h : s.Reduces [a] t) (x : FVec Ideal s .f32) (y : IVec s 32)
    (ix : FVec Ideal u .f32) (iy : IVec u 32) (hu : 0 < u.numel) (j : t.Idx) (p q : EReal)
    (hix : ix (Shape.Idx.first hu) = (⊥ : EReal)) (hiy : iy (Shape.Idx.first hu) = 0#32)
    (hl : ((List.finRange (s.size a)).map fun k => ((x (h.lift j k) : Ideal .f32), y (h.lift j k))) = [((p : Ideal .f32), 0#32), (q, 1#32)]) :
    (Host.argReduce (reducer_argmax_f32_i32 (F := Ideal)) x y ix iy h' hu j).2 = if p < q then 1#32 else 0#32 := by
  rw [Ideal.argReduce_eq_reduce2, Host.reduce2_eq_foldl_fiber, hix, hiy]
  exact fold_pair p q _ (hl ▸ fiber_perm h' h x y j)

/-- The first axis but one dropped from a two-channel volume. -/
theorem reduces_channel : S4x2x64x64x64.Reduces [1] S4x64x64x64 := by decide

/-- A voxel with its channel put in. -/
theorem lift_channel (b : Fin 4) (h w d : Fin 64) (k : Fin 2) : reduces_channel.lift (ix4 b h w d) k = ix5 b k h w d := funext fun a => Fin.ext (by
  match a with | ⟨0, _⟩ => rfl | ⟨1, _⟩ => rfl | ⟨2, _⟩ => rfl | ⟨3, _⟩ => rfl | ⟨4, _⟩ => rfl)

/-- The two pairs of a voxel. -/
theorem pairs_channel (s : FVec Ideal S4x2x64x64x64 .f32) (b : Fin 4) (h w d : Fin 64) :
    ((List.finRange 2).map fun k : Fin 2 => (s (reduces_channel.lift (ix4 b h w d) k), iotaInDim S4x2x64x64x64 32 1 (reduces_channel.lift (ix4 b h w d) k)))
      = [(s (ix5 b 0 h w d), 0#32), (s (ix5 b 1 h w d), 1#32)] := by
  rw [map_two, lift_channel, lift_channel]
  rfl

/-- The pattern of minus infinity. -/
theorem ofBits_bot : (Ideal.ofBits .f32 0xFF800000#32 : EReal) = ⊥ := by simp [Ideal.ofBits, Ideal.ieee]

/-- The sketch as a function of the voxel. -/
theorem sketch_eq (s : FVec Ideal S4x2x64x64x64 .f32) : sketch s = fun j =>
    (Host.argReduce (reducer_argmax_f32_i32 (F := Ideal)) s (iotaInDim S4x2x64x64x64 32 1) (constant S_ .f32 0xFF800000#32)
      (constantI S_ 32 0#32) reducesTo_S4x2x64x64x64_S4x64x64x64_d1 h_S_ j).2 := rfl

/-- The argument of the greatest of two channels: the second only where it is the larger. -/
theorem sketch_apply (s : FVec Ideal S4x2x64x64x64 .f32) (b : Fin 4) (h w d : Fin 64) :
    sketch s (ix4 b h w d) = if s (ix5 b 0 h w d) < s (ix5 b 1 h w d) then 1#32 else 0#32 :=
  (congrFun (sketch_eq s) (ix4 b h w d)).trans (argReduce_pair reducesTo_S4x2x64x64x64_S4x64x64x64_d1 reduces_channel s (iotaInDim S4x2x64x64x64 32 1) (constant S_ .f32 0xFF800000#32) (constantI S_ 32 0#32) h_S_ (ix4 b h w d) (s (ix5 b 0 h w d)) (s (ix5 b 1 h w d))
    ofBits_bot rfl (pairs_channel s b h w d))

/-- A fold of word addition is a sum. -/
theorem fold_addi {ι : Type} (S : Finset ι) (f : ι → BitVec 32) : S.fold IntOp.addi 0#32 f = ∑ q ∈ S, f q := by
  classical
  induction S using Finset.induction_on with
  | empty => rfl
  | insert a S ha ih => rw [Finset.fold_insert ha, Finset.sum_insert ha, ih]; rfl

/-- A sum of words that are zero or one, at a block, is the number of ones. -/
theorem wordSum_apply (y : IVec S16384x64 32) (n : Fin 16384) (p : Fin 64 → Prop) [∀ q, Decidable (p q)]
    (hy : ∀ q, y (ix2 n q) = if p q then 1#32 else 0#32) :
    (Host.reduce IntOp.addi y (constantI S_ 32 0#32) reducesTo_S16384x64_S16384_d1 h_S_ (ix1 n)).toNat = ∑ q, if p q then 1 else 0 := by
  have hR : S16384x64.Reduces [1] S16384 := by decide
  have hlift : ∀ q : Fin 64, hR.lift (ix1 n) q = ix2 n q := fun q => funext fun a => Fin.ext (by
    match a with | ⟨0, _⟩ => rfl | ⟨1, _⟩ => rfl)
  have hb : ∀ q, (y (ix2 n q)).toNat = if p q then 1 else 0 := fun q => by rw [hy q]; split <;> rfl
  have hs : (∑ q, if p q then 1 else 0 : ℕ) ≤ 64 := by
    refine (Finset.sum_le_sum (g := fun _ => 1) fun q _ => ?_).trans (by simp)
    split <;> omega
  rw [Host.reduce_eq_fold_single _ _ _ _ hR]
  have e : (Finset.univ : Finset (Fin 64)).fold IntOp.addi 0#32 (fun q => y (ix2 n q)) = ∑ q, y (ix2 n q) := fold_addi _ _
  have e2 : (Finset.univ : Finset (Fin (S16384x64.size 1))).fold IntOp.addi (constantI S_ 32 0#32 (Shape.Idx.first h_S_)) (y ∘ hR.lift (ix1 n))
      = (Finset.univ : Finset (Fin 64)).fold IntOp.addi 0#32 (fun q => y (ix2 n q)) :=
    congrArg (fun f => Finset.fold IntOp.addi 0#32 f (Finset.univ : Finset (Fin 64))) (funext fun q => congrArg y (hlift q))
  rw [e2, e, WordSum.toNat_sum _ _ (by simp only [hb]; omega)]
  simp only [hb]

/-- A word of zeros and ones, summed over a block, is above zero exactly when the block holds a one. -/
theorem wordSum_pos (y : IVec S16384x64 32) (n : Fin 16384) (p : Fin 4 → Fin 4 → Fin 4 → Prop) [∀ i j k, Decidable (p i j k)]
    (hy : ∀ i j k, y (ix2 n (voxelNo i j k)) = if p i j k then 1#32 else 0#32) :
    0 < (Host.reduce IntOp.addi y (constantI S_ 32 0#32) reducesTo_S16384x64_S16384_d1 h_S_ (ix1 n)).toInt ↔ ∃ i j k : Fin 4, p i j k := by
  classical
  have hq : ∀ q : Fin 64, ∃ i j k, q = voxelNo i j k := fun q =>
    ⟨⟨q.val / 16, by omega⟩, ⟨q.val / 4 % 4, by omega⟩, ⟨q.val % 4, by omega⟩, Fin.ext (by simp only [voxelNo]; omega)⟩
  have e := wordSum_apply y n (fun q => y (ix2 n q) = 1#32) (fun q => by
    obtain ⟨i, j, k, rfl⟩ := hq q
    rw [hy i j k]
    by_cases h : p i j k <;> simp [h])
  have hs : (∑ q : Fin 64, if y (ix2 n q) = 1#32 then 1 else 0 : ℕ) ≤ 64 := by
    refine (Finset.sum_le_sum (g := fun _ => 1) fun q _ => ?_).trans (by simp)
    split <;> omega
  rw [BitVec.toInt_eq_toNat_of_lt (by rw [e]; omega), e, Nat.cast_pos, sum_voxels, nat_sum_pos_iff]
  refine exists_congr fun i => exists_congr fun j => exists_congr fun k => ?_
  rw [hy i j k]
  by_cases h : p i j k <;> simp [h]

/-- Whether a block counts. -/
theorem chosen_apply (s : FVec Ideal S4x2x64x64x64 .f32) (lab lw : IVec S4x1x64x64x64 32)
    (hlab : ∀ i, 0 ≤ (lab i).toInt ∧ (lab i).toInt < 12) (hlw : ∀ i, lw i = 0#32 ∨ lw i = 1#32) (b : Fin 4) (h w d : Fin 16) :
    (uitofp .f32 (chosen (blocks (broadcastInDim S4x1x64x64x64 ![0, 2, 3, 4] bcast_S4x64x64x64_S4x1x64x64x64_0_2_3_4 (sketch s)))
      (blocks lab) (blocks lw)) : FVec Ideal S16384 .f32) (ix1 (blockNo b h w d)) = weight lw s b h w d := by
  classical
  have h1 := wordSum_pos (blocks (broadcastInDim S4x1x64x64x64 ![0, 2, 3, 4] bcast_S4x64x64x64_S4x1x64x64x64_0_2_3_4 (sketch s))) (blockNo b h w d)
    (fun i j k => s (ix5 b 0 (at4 h i) (at4 w j) (at4 d k)) < s (ix5 b 1 (at4 h i) (at4 w j) (at4 d k))) (fun i j k => by
      rw [blocks_apply, broadcastInDim_apply ![0, 2, 3, 4] bcast_S4x64x64x64_S4x1x64x64x64_0_2_3_4 _ _ (ix4 b (at4 h i) (at4 w j) (at4 d k))
        (fun a => by match a with | ⟨0, _⟩ => rfl | ⟨1, _⟩ => rfl | ⟨2, _⟩ => rfl | ⟨3, _⟩ => rfl)]
      exact sketch_apply s b _ _ _)
  have h2 := wordSum_pos (blocks lw) (blockNo b h w d) (fun i j k => On (lw (ix5 b 0 (at4 h i) (at4 w j) (at4 d k)))) (fun i j k => by
      rw [blocks_apply]
      rcases hlw (ix5 b 0 (at4 h i) (at4 w j) (at4 d k)) with e | e <;> rw [e] <;> rfl)
  have h3 : Host.reduce IntOp.addi (extui 32 (cmpi .slt (blocks lab) (broadcastInDim S16384x64 ![] bcast_S_S16384x64 (constantI S_ 32 255#32))) natLt_1_32)
      (constantI S_ 32 0#32) reducesTo_S16384x64_S16384_d1 h_S_ (ix1 (blockNo b h w d)) = 64#32 := by
    refine BitVec.eq_of_toNat_eq ((wordSum_apply _ _ (fun _ => True) (fun q => ?_)).trans (by simp))
    rw [extui_apply, cmpi_apply, broadcastInDim_scalar_apply, constI_apply, if_pos trivial]
    have hq : ∃ i j k, q = voxelNo i j k :=
      ⟨⟨q.val / 16, by omega⟩, ⟨q.val / 4 % 4, by omega⟩, ⟨q.val % 4, by omega⟩, Fin.ext (by simp only [voxelNo]; omega)⟩
    obtain ⟨i, j, k, rfl⟩ := hq
    rw [blocks_apply]
    have hl := (hlab (ix5 b 0 (at4 h i) (at4 w j) (at4 d k))).2
    have : (lab (ix5 b 0 (at4 h i) (at4 w j) (at4 d k))).slt 255#32 = true := by
      rw [BitVec.slt, decide_eq_true_eq]
      exact hl.trans (by decide)
    show (BitVec.ofBool ((lab (ix5 b 0 (at4 h i) (at4 w j) (at4 d k))).slt 255#32)).setWidth 32 = 1#32
    rw [this]; rfl
  unfold chosen
  rw [uitofp_apply, andi_apply, andi_apply, cmpi_apply, cmpi_apply, cmpi_apply, broadcastInDim_scalar_apply, broadcastInDim_scalar_apply, constI_apply, constI_apply,
    cmpi_sgt_zero, cmpi_sgt_zero, cmpi_eq, andi_decide, andi_decide, uitofp_decide]
  unfold weight
  refine if_congr ?_ rfl rfl
  unfold Chosen
  rw [h1, h2]
  exact and_iff_left h3

/-- The sum over the blocks of a vector, by batch entry and block coordinates. -/
theorem total_apply (v : FVec Ideal S16384 .f32) (i : S_.Idx) : total v i = ∑ b : Fin 4, ∑ h : Fin 16, ∑ w : Fin 16, ∑ d : Fin 16, v (ix1 (blockNo b h w d)) := by
  unfold total
  rw [hostReduceAdd_apply, Ideal.hostReduceAdd_total _ (fun b => b.elim0), const_apply, Ideal.ofBits_zero_f32, zero_add,
    ← Equiv.sum_comp (idxEquiv1 (n := 16384)).symm v, sum_blocks]
  rfl

/-- The divergence of a block in the shared terms. -/
theorem kl_apply (x : FVec Ideal S4x12x64x64x64 .f32) (lab lw : IVec S4x1x64x64x64 32) (hx : ∀ i, x i = ((x i).toReal : EReal))
    (hlab : ∀ i, 0 ≤ (lab i).toInt ∧ (lab i).toInt < 12) (b : Fin 4) (h w d : Fin 16) :
    divergence (shares (counted (blocks lab) (weighted (blocks lw)))) (shares (predicted (classBlocks (softmax x)) (weighted (blocks lw)))) (ix1 (blockNo b h w d))
      = kl (count lab lw b h w d) (pred x lw b h w d) := by
  rw [divergence_apply]
  unfold kl
  refine Finset.sum_congr rfl fun c _ => ?_
  rw [shares_apply, shares_apply]
  simp only [predicted_apply x lw hx, counted_apply]
  rw [sum_pred, sum_count lab lw hlab]

/-- The reference's result is the mean loss over the counted blocks. -/
theorem answer_eq (x : FVec Ideal S4x12x64x64x64 .f32) (lab lw : IVec S4x1x64x64x64 32) (s : FVec Ideal S4x2x64x64x64 .f32)
    (hx : ∀ i, x i = ((x i).toReal : EReal)) (hlab : ∀ i, 0 ≤ (lab i).toInt ∧ (lab i).toInt < 12) (hlw : ∀ i, lw i = 0#32 ∨ lw i = 1#32) :
    answer x lab lw s = fun _ => meanOf (lossSum x lab lw s) (countSum lw s) := by
  funext i
  have hn : ∀ i, total (F := Ideal) (uitofp .f32 (chosen (blocks (broadcastInDim S4x1x64x64x64 ![0, 2, 3, 4] bcast_S4x64x64x64_S4x1x64x64x64_0_2_3_4 (sketch s)))
      (blocks lab) (blocks lw))) i = countSum lw s := fun i => by
    rw [total_apply]
    exact Finset.sum_congr rfl fun b _ => Finset.sum_congr rfl fun h _ => Finset.sum_congr rfl fun w _ => Finset.sum_congr rfl fun d _ =>
      chosen_apply s lab lw hlab hlw b h w d
  have hl : ∀ i, total (mulf (divergence (shares (counted (blocks lab) (weighted (blocks lw))))
      (shares (predicted (classBlocks (softmax x)) (weighted (blocks lw)))))
      (uitofp .f32 (chosen (blocks (broadcastInDim S4x1x64x64x64 ![0, 2, 3, 4] bcast_S4x64x64x64_S4x1x64x64x64_0_2_3_4 (sketch s)))
        (blocks lab) (blocks lw)))) i = lossSum x lab lw s := fun i => by
    rw [total_apply]
    refine Finset.sum_congr rfl fun b _ => Finset.sum_congr rfl fun h _ => Finset.sum_congr rfl fun w _ => Finset.sum_congr rfl fun d _ => ?_
    rw [mulf_apply, chosen_apply s lab lw hlab hlw b h w d, kl_apply x lab lw hx hlab b h w d]
  unfold answer RefRun.mean
  rw [select_apply, cmpf_apply, hostDivf_apply, maximumf_apply, hl, hn, const_apply, const_apply, Ideal.ofBits_zero_f32, Ideal.ofBits_one_f32]
  rfl

end Cert.RefRead
-- ==== Proof.PreFacts.lean ====
/- What the precondition says of single entries: every logit is finite, every label is a class number, every weight is zero or
   one. -/
module

public import proofs.«01_k».proof.Pre_drawn_ranges
public import Idealize.ShloMosaic.Lib.Pipeline.Value
public import Idealize.ShloMosaic.Lib.ValueIdx
public import Idealize.ShloMosaic.Lib.IdealHost

@[expose] public section

set_option maxRecDepth 16384

noncomputable section

namespace Cert.PreFacts

open Cert.Pre_drawn_ranges Idealize.ShloMosaic Idealize.ShloMosaic.ValueIdx

variable [Facts]

/-- A conjunction of one-bit words at an index. -/
theorem andi_apply {S : Shape} (x y : IVec S 1) (i : S.Idx) : andi x y i = IntOp.andi (x i) (y i) := rfl

/-- A conjunction of one-bit words is one when both are. -/
theorem andi_one (a b : BitVec 1) : IntOp.andi a b = 1#1 ↔ a = 1#1 ∧ b = 1#1 := by
  revert a b; decide

/-- The word of infinity. -/
theorem ofBits_top : (Ideal.ofBits .f32 0x7F800000#32 : EReal) = ⊤ := by simp [Ideal.ofBits, Ideal.ieee]

/-- A truth value's word is one exactly when it holds. -/
theorem ofBool_one (p : Prop) [Decidable p] : BitVec.ofBool (decide p) = 1#1 ↔ p := by
  by_cases h : p <;> simp [h]

/-- An entry whose absolute value is below infinity is a real number. -/
theorem real_of_bit (y : EReal) (h : Ideal.cmp .olt (max y (-y)) (Ideal.ofBits .f32 0x7F800000#32) = 1#1) : y = (y.toReal : EReal) := by
  rw [ofBits_top] at h
  have h' : max y (-y) < ⊤ := (ofBool_one _).mp h
  have ht : y ≠ ⊤ := fun e => by rw [e] at h'; simp at h'
  have hb : y ≠ ⊥ := fun e => by rw [e] at h'; simp at h'
  exact (EReal.coe_toReal ht hb).symm

/-- A bit that is set. -/
theorem ofBool_true {q : Bool} (h : BitVec.ofBool q = 1#1) : q = true := by
  cases q
  · exact absurd h (by decide)
  · rfl

/-- The comparison of a word from below. -/
theorem le_of_sge {z a : BitVec 32} (h : IntOp.cmpi .sge z a = 1#1) : a.toInt ≤ z.toInt := of_decide_eq_true (ofBool_true h)
/-- The strict comparison of a word from above. -/
theorem lt_of_slt {z a : BitVec 32} (h : IntOp.cmpi .slt z a = 1#1) : z.toInt < a.toInt := of_decide_eq_true (ofBool_true h)
/-- The comparison of a word from above. -/
theorem le_of_sle {z a : BitVec 32} (h : IntOp.cmpi .sle z a = 1#1) : z.toInt ≤ a.toInt := of_decide_eq_true (ofBool_true h)

variable (x : FVec Ideal S4x12x64x64x64 .f32) (l w : IVec S4x1x64x64x64 32) (s : FVec Ideal S4x2x64x64x64 .f32)

/-- A channel's finiteness bit at an index speaks of that channel's entry. -/
theorem real_of_slice (k : Fin 12) (hs : S4x12x64x64x64.Slices ![0, k.val, 0, 0, 0] S4x1x64x64x64) (hb : S_.BroadcastsInDim S4x1x64x64x64 (![] : Fin 0 → Fin S4x1x64x64x64.rank))
    (b : Fin 4) (h v d : Fin 64)
    (e : cmpf .olt (Host.absf (extractStridedSlice S4x1x64x64x64 ![0, k.val, 0, 0, 0] x hs)) (broadcastInDim S4x1x64x64x64 ![] hb (constant S_ .f32 0x7F800000#32)) (ix5 b 0 h v d) = 1#1) :
    x (ix5 b k h v d) = ((x (ix5 b k h v d)).toReal : EReal) := by
  refine real_of_bit (x (ix5 b k h v d)) (Eq.trans ?_ e)
  rw [cmpf_apply, broadcastInDim_scalar_apply, constant_apply]
  have q : Host.absf (extractStridedSlice S4x1x64x64x64 ![0, k.val, 0, 0, 0] x hs) (ix5 b 0 h v d)
      = max (extractStridedSlice S4x1x64x64x64 ![0, k.val, 0, 0, 0] x hs (ix5 b 0 h v d)) (-(extractStridedSlice S4x1x64x64x64 ![0, k.val, 0, 0, 0] x hs (ix5 b 0 h v d))) := rfl
  rw [q, extractStridedSlice_apply _ x hs (ix5 b 0 h v d) (ix5 b k h v d) (fun a => by
    match a with
    | ⟨0, _⟩ => exact (Nat.zero_add _).symm
    | ⟨1, _⟩ => rfl
    | ⟨2, _⟩ => exact (Nat.zero_add _).symm
    | ⟨3, _⟩ => exact (Nat.zero_add _).symm
    | ⟨4, _⟩ => exact (Nat.zero_add _).symm)]
  rfl

/-- At one voxel the precondition says that its logits are finite, its label a class number and its weight zero or one. -/
theorem at_voxel (H : fn (F := Ideal) x l w s = fun _ => 1#1) (b : Fin 4) (h v d : Fin 64) :
    (∀ k : Fin 12, x (ix5 b k h v d) = ((x (ix5 b k h v d)).toReal : EReal))
      ∧ (0 ≤ (l (ix5 b 0 h v d)).toInt ∧ (l (ix5 b 0 h v d)).toInt < 12) ∧ (w (ix5 b 0 h v d) = 0#32 ∨ w (ix5 b 0 h v d) = 1#32) := by
  have e := congrFun H (ix5 b 0 h v d)
  unfold fn fn_part1 fn_part2 fn_part3 at e
  dsimp only at e
  simp only [andi_apply, andi_one] at e
  obtain ⟨⟨⟨⟨⟨⟨⟨⟨⟨⟨⟨⟨⟨e0, e1⟩, e2⟩, e3⟩, e4⟩, e5⟩, e6⟩, e7⟩, e8⟩, e9⟩, e10⟩, e11⟩, el0, el1⟩, ew0, ew1⟩ := e
  refine ⟨fun k => ?_, ⟨?_, ?_⟩, ?_⟩
  · match k with
    | ⟨0, _⟩ => exact real_of_slice x 0 _ _ b h v d e0
    | ⟨1, _⟩ => exact real_of_slice x 1 _ _ b h v d e1
    | ⟨2, _⟩ => exact real_of_slice x 2 _ _ b h v d e2
    | ⟨3, _⟩ => exact real_of_slice x 3 _ _ b h v d e3
    | ⟨4, _⟩ => exact real_of_slice x 4 _ _ b h v d e4
    | ⟨5, _⟩ => exact real_of_slice x 5 _ _ b h v d e5
    | ⟨6, _⟩ => exact real_of_slice x 6 _ _ b h v d e6
    | ⟨7, _⟩ => exact real_of_slice x 7 _ _ b h v d e7
    | ⟨8, _⟩ => exact real_of_slice x 8 _ _ b h v d e8
    | ⟨9, _⟩ => exact real_of_slice x 9 _ _ b h v d e9
    | ⟨10, _⟩ => exact real_of_slice x 10 _ _ b h v d e10
    | ⟨11, _⟩ => exact real_of_slice x 11 _ _ b h v d e11
  · exact le_of_sge (z := l (ix5 b 0 h v d)) (a := 0#32) el0
  · exact lt_of_slt (z := l (ix5 b 0 h v d)) (a := 12#32) el1
  · have t : (0#32 : BitVec 32).toInt ≤ (w (ix5 b 0 h v d)).toInt := le_of_sge ew0
    have t' : (w (ix5 b 0 h v d)).toInt ≤ (1#32 : BitVec 32).toInt := le_of_sle ew1
    have t0 : (0#32 : BitVec 32).toInt = 0 := by decide
    have t1 : (1#32 : BitVec 32).toInt = 1 := by decide
    rcases (by omega : (w (ix5 b 0 h v d)).toInt = 0 ∨ (w (ix5 b 0 h v d)).toInt = 1) with q | q
    · exact .inl (BitVec.eq_of_toInt_eq (q.trans t0.symm))
    · exact .inr (BitVec.eq_of_toInt_eq (q.trans t1.symm))

/-- The precondition makes every logit finite. -/
theorem finite (H : fn (F := Ideal) x l w s = fun _ => 1#1) (i : S4x12x64x64x64.Idx) : x i = ((x i).toReal : EReal) := by
  have e : ∃ (b : Fin 4) (k : Fin 12) (h v d : Fin 64), i = ix5 b k h v d := ⟨i 0, i 1, i 2, i 3, i 4, eq_ix5 i⟩
  obtain ⟨b, k, h, v, d, rfl⟩ := e
  exact (at_voxel x l w s H b h v d).1 k

/-- Every voxel index is one of a batch entry and three coordinates. -/
theorem voxel (i : S4x1x64x64x64.Idx) : ∃ (b : Fin 4) (h v d : Fin 64), i = ix5 b (0 : Fin 1) h v d := ⟨i 0, i 2, i 3, i 4, by
  refine (eq_ix5 i).trans ?_
  rw [show i 1 = (0 : Fin 1) from Subsingleton.elim (α := Fin 1) _ _]
  rfl⟩

/-- The precondition makes every label a class number. -/
theorem label (H : fn (F := Ideal) x l w s = fun _ => 1#1) (i : S4x1x64x64x64.Idx) : 0 ≤ (l i).toInt ∧ (l i).toInt < 12 := by
  obtain ⟨b, h, v, d, rfl⟩ := voxel i
  exact (at_voxel x l w s H b h v d).2.1

/-- The precondition makes every weight zero or one. -/
theorem weight (H : fn (F := Ideal) x l w s = fun _ => 1#1) (i : S4x1x64x64x64.Idx) : w i = 0#32 ∨ w i = 1#32 := by
  obtain ⟨b, h, v, d, rfl⟩ := voxel i
  exact (at_voxel x l w s H b h v d).2.2

end Cert.PreFacts
-- ==== Proof.Value.lean ====
/- The value claim: the kernel and the reference give the same loss on every argument the precondition admits. -/
module

public import proofs.«01_k».proof.Defs
public import proofs.«01_k».proof.Proof.Gen.Pre_drawn_ranges
public import proofs.«01_k».proof.Proof.KerFold
public import proofs.«01_k».proof.Proof.RefChosen
public import proofs.«01_k».proof.Proof.PreFacts

@[expose] public section

set_option maxRecDepth 16384

noncomputable section

namespace Cert.Value

open Idealize.ShloMosaic Idealize.SL.Sem Cert.Spec Cert.KerFold

/-- On arguments in the drawn ranges the kernel and the reference end with the same result, the mean loss over the counted
    blocks, and leave their arguments unchanged. -/
theorem algebraic : algebraic_KernelIdeal_ReferenceIdeal_pre_drawn_ranges (hKernelIdeal := Cert.KernelIdeal.Gen.facts)
    (hReferenceIdeal := Cert.ReferenceIdeal.Gen.facts) (hPre_drawn_ranges := Cert.Pre_drawn_ranges.Gen.facts) := by
  intro m g m' g' hpre hargs
  have hx := fun c => @Cert.PreFacts.finite Cert.Pre_drawn_ranges.Gen.facts _ _ _ _ (hpre c)
  have hl := fun c => @Cert.PreFacts.label Cert.Pre_drawn_ranges.Gen.facts _ _ _ _ (hpre c)
  have hw := fun c => @Cert.PreFacts.weight Cert.Pre_drawn_ranges.Gen.facts _ _ _ _ (hpre c)
  refine ⟨fun c => fun _ => meanOf (lossSum (argX m c) (argL m c) (argW m c) (argS m c)) (countSum (argW m c) (argS m c)), ?_, ?_⟩
  · exact (θ_run _ _ _).mono (fun r h c => ⟨(h c).1.trans (finish_eq m c (hx c) (hl c)), (h c).2⟩) (Cert.KerRun.run m g)
  · refine (θ_run _ _ _).mono (fun r h c => ⟨(h c).1.trans ?_, (h c).2⟩) (Cert.RefRun.run m' g')
    obtain ⟨e0, e1, e2, e3⟩ := hargs c
    rw [e0, e1, e2, e3]
    exact Cert.RefRead.answer_eq _ _ _ _ (hx c) (hl c) (hw c)

end Cert.Value

end
-- ==== Proof.lean ====
/- The assembly of the certificate: each claim from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Gen.Pre_drawn_ranges
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_drawn_ranges.Gen.facts,
  fun m ρ _ => Cert.Kernel.Gen.frame m ρ, fun m ρ _ => Cert.KernelIdeal.Gen.frame m ρ, fun m ρ _ => Cert.KernelIdeal.Gen.frame m ρ,
  fun m ρ _ => Cert.RefRun.frame m ρ, fun m ρ _ => Cert.RefRun.frame m ρ, trivial, Cert.Value.algebraic⟩

end Cert.Proof

end
